-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x2048x1024 : Shape := ⟨3, ![24, 2048, 1024]⟩
abbrev S24x2048 : Shape := ⟨2, ![24, 2048]⟩
abbrev S1024 : Shape := ⟨1, ![1024]⟩
abbrev S1024x1536 : Shape := ⟨2, ![1024, 1536]⟩
abbrev S1536 : Shape := ⟨1, ![1536]⟩
abbrev S24x2048x1536 : Shape := ⟨3, ![24, 2048, 1536]⟩
abbrev S49152x1024 : Shape := ⟨2, ![49152, 1024]⟩
abbrev S48x1x1024 : Shape := ⟨3, ![48, 1, 1024]⟩
abbrev S1x1024 : Shape := ⟨2, ![1, 1024]⟩
abbrev S1x1536 : Shape := ⟨2, ![1, 1536]⟩
abbrev S49152x1536 : Shape := ⟨2, ![49152, 1536]⟩
abbrev S1024x1024 : Shape := ⟨2, ![1024, 1024]⟩
abbrev S1x1x1024 : Shape := ⟨3, ![1, 1, 1024]⟩
abbrev S8x1024 : Shape := ⟨2, ![8, 1024]⟩
abbrev S1x128 : Shape := ⟨2, ![1, 128]⟩
abbrev S128x128 : Shape := ⟨2, ![128, 128]⟩
abbrev S1024x128 : Shape := ⟨2, ![1024, 128]⟩
abbrev S8x128 : Shape := ⟨2, ![8, 128]⟩
abbrev S128x8x128 : Shape := ⟨3, ![128, 8, 128]⟩
abbrev S1024x1 : Shape := ⟨2, ![1024, 1]⟩

abbrev nBuf : Space → Nat
  | .hbm => 16
  | .vmem => 17
  | .smem => 0
  | _ => 0

abbrev bufTy : (tb : Table) → Fin (tcTables nBuf tb) → BufTy
  | .hbm, ⟨0, _⟩ => ⟨S24x2048x1024, .fp8e4m3⟩
  | .hbm, ⟨1, _⟩ => ⟨S24x2048, .f32⟩
  | .hbm, ⟨2, _⟩ => ⟨S24x2048, .f32⟩
  | .hbm, ⟨3, _⟩ => ⟨S1024, .f32⟩
  | .hbm, ⟨4, _⟩ => ⟨S1024x1536, .fp8e4m3⟩
  | .hbm, ⟨5, _⟩ => ⟨S1536, .f32⟩
  | .hbm, ⟨6, _⟩ => ⟨S24x2048x1536, .bf16⟩
  | .hbm, ⟨7, _⟩ => ⟨S49152x1024, .fp8e4m3⟩
  | .hbm, ⟨8, _⟩ => ⟨S48x1x1024, .f32⟩
  | .hbm, ⟨9, _⟩ => ⟨S48x1x1024, .f32⟩
  | .hbm, ⟨10, _⟩ => ⟨S1x1024, .f32⟩
  | .hbm, ⟨11, _⟩ => ⟨S1x1536, .f32⟩
  | .hbm, ⟨12, _⟩ => ⟨S49152x1536, .bf16⟩
  | .hbm, ⟨13, _⟩ => ⟨S49152x1024, .bf16⟩
  | .hbm, ⟨14, _⟩ => ⟨S1024x1536, .f32⟩
  | .hbm, ⟨15, _⟩ => ⟨S1x1024, .f32⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .fp8e4m3⟩
  | .local _ .vmem, ⟨8, _⟩ => ⟨S1x1536, .f32⟩
  | .local _ .vmem, ⟨9, _⟩ => ⟨S1024x1536, .bf16⟩
  | .local _ .vmem, ⟨10, _⟩ => ⟨S1024x1536, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1536, .f32⟩
  | .local _ .vmem, ⟨14, _⟩ => ⟨S1x1024, .f32⟩
  | .local _ .vmem, ⟨15, _⟩ => ⟨S1024x1536, .bf16⟩
  | .local _ .vmem, ⟨16, _⟩ => ⟨S8x1024, .f32⟩
  | _, _ => ⟨S24x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v339 : BitVec 1 := Scalar.cmpi .eq arg0 c47_i32
  let v340 : BitVec 32 := Scalar.extui v339
  let c0_i32_85 : BitVec 32 := 0#32
  let v341 : BitVec 1 := Scalar.cmpi .ne v340 c0_i32_85
  v341

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S24x2048x1024 : Shape := ⟨3, ![24, 2048, 1024]⟩
abbrev S24x2048 : Shape := ⟨2, ![24, 2048]⟩
abbrev S1024 : Shape := ⟨1, ![1024]⟩
abbrev S1024x1536 : Shape := ⟨2, ![1024, 1536]⟩
abbrev S1536 : Shape := ⟨1, ![1536]⟩
abbrev S24x2048x1536 : Shape := ⟨3, ![24, 2048, 1536]⟩
abbrev S49152x1024 : Shape := ⟨2, ![49152, 1024]⟩
abbrev S49152x1 : Shape := ⟨2, ![49152, 1]⟩
abbrev S1x1024 : Shape := ⟨2, ![1, 1024]⟩
abbrev S1x1536 : Shape := ⟨2, ![1, 1536]⟩
abbrev S49152x1536 : Shape := ⟨2, ![49152, 1536]⟩
abbrev S49152 : Shape := ⟨1, ![49152]⟩

abbrev nBuf : Space → Nat
  | .hbm => 16
  | .vmem => 10
  | .smem => 0
  | _ => 0

abbrev bufTy : (tb : Table) → Fin (tcTables nBuf tb) → BufTy
  | .hbm, ⟨0, _⟩ => ⟨S24x2048x1024, .fp8e4m3⟩
  | .hbm, ⟨1, _⟩ => ⟨S24x2048, .f32⟩
  | .hbm, ⟨2, _⟩ => ⟨S24x2048, .f32⟩
  | .hbm, ⟨3, _⟩ => ⟨S1024, .f32⟩
  | .hbm, ⟨4, _⟩ => ⟨S1024x1536, .fp8e4m3⟩
  | .hbm, ⟨5, _⟩ => ⟨S1536, .f32⟩
  | .hbm, ⟨6, _⟩ => ⟨S24x2048x1536, .bf16⟩
  | .hbm, ⟨7, _⟩ => ⟨S49152x1024, .fp8e4m3⟩
  | .hbm, ⟨8, _⟩ => ⟨S49152x1, .f32⟩
  | .hbm, ⟨9, _⟩ => ⟨S49152x1, .f32⟩
  | .hbm, ⟨10, _⟩ => ⟨S1x1024, .f32⟩
  | .hbm, ⟨11, _⟩ => ⟨S1x1536, .f32⟩
  | .hbm, ⟨12, _⟩ => ⟨S49152x1536, .bf16⟩
  | .hbm, ⟨13, _⟩ => ⟨S49152x1024, .bf16⟩
  | .hbm, ⟨14, _⟩ => ⟨S1024x1536, .f32⟩
  | .hbm, ⟨15, _⟩ => ⟨S1x1024, .f32⟩
  | .local _ .vmem, ⟨0, _⟩ => ⟨S49152x1024, .fp8e4m3⟩
  | .local _ .vmem, ⟨1, _⟩ => ⟨S49152x1, .f32⟩
  | .local _ .vmem, ⟨2, _⟩ => ⟨S49152x1, .f32⟩
  | .local _ .vmem, ⟨3, _⟩ => ⟨S1x1024, .f32⟩
  | .local _ .vmem, ⟨4, _⟩ => ⟨S1024x1536, .fp8e4m3⟩
  | .local _ .vmem, ⟨5, _⟩ => ⟨S1x1536, .f32⟩
  | .local _ .vmem, ⟨6, _⟩ => ⟨S49152x1536, .bf16⟩
  | .local _ .vmem, ⟨7, _⟩ => ⟨S49152x1024, .bf16⟩
  | .local _ .vmem, ⟨8, _⟩ => ⟨S1024x1536, .f32⟩
  | .local _ .vmem, ⟨9, _⟩ => ⟨S1x1024, .f32⟩
  | _, _ => ⟨S24x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S49152x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S49152x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S49152x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Block.lean ====
/- What the kernel computes at one grid point, as mathematics on the point's blocks, and the payloads of the body read
   at an index. A block holds 1024 tokens; the body works on 8 tiles of 128 features each. -/
module

public import proofs.«01_k».proof.Proof.Gen.KernelIdeal.Skeleton
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Block

open Idealize.ShloMosaic Cert.KernelIdeal Cert.KernelIdeal.Gen

/-! ## The mathematics of one block -/

/-- The normalised activation of token `t`, feature `d`: the stored value times the token's combined scale. -/
def nrm (x : Vec Ideal S1024x1024 .fp8e4m3) (s r : Vec Ideal S1x1x1024 .f32) (t d : Fin 1024) : EReal :=
  x (ix2 t d) * (s (ix3 0 0 t) * r (ix3 0 0 t))

/-- The gradient at the projection's input of token `t`, feature `d`: the incoming gradient times the weights. -/
def dxh (q w : Vec Ideal S1024x1536 .bf16) (t d : Fin 1024) : EReal :=
  ∑ k : Fin 1536, q (ix2 t k) * w (ix2 d k)

/-- The mean over the features that the normalisation's gradient subtracts, for token `t` (a sum times 1/1024). -/
def rowMean (x : Vec Ideal S1024x1024 .fp8e4m3) (s r : Vec Ideal S1x1x1024 .f32) (g : Vec Ideal S1x1024 .f32)
    (q w : Vec Ideal S1024x1536 .bf16) (t : Fin 1024) : EReal :=
  (∑ d : Fin 1024, dxh q w t d * nrm x s r t d * g (ix2 0 d)) * Ideal.ofBits .f32 0x3A800000#32

/-- The gradient of the activations for the block's token `t`, feature `d`. -/
def dxOf (x : Vec Ideal S1024x1024 .fp8e4m3) (s r : Vec Ideal S1x1x1024 .f32) (g : Vec Ideal S1x1024 .f32)
    (q w : Vec Ideal S1024x1536 .bf16) (t d : Fin 1024) : EReal :=
  r (ix3 0 0 t) * (dxh q w t d * g (ix2 0 d) - nrm x s r t d * rowMean x s r g q w t)

/-- What the block adds to the weight gradient at feature `d`, projection column `k`. -/
def dwOf (x : Vec Ideal S1024x1024 .fp8e4m3) (s r : Vec Ideal S1x1x1024 .f32) (g : Vec Ideal S1x1024 .f32)
    (q : Vec Ideal S1024x1536 .bf16) (d : Fin 1024) (k : Fin 1536) : EReal :=
  ∑ t : Fin 1024, nrm x s r t d * g (ix2 0 d) * q (ix2 t k)

/-- What the block adds to row `i` of the 8-row running sum of the gain's gradient, at feature `d`: the tokens whose
    number is `i` modulo 8. -/
def dgOf (x : Vec Ideal S1024x1024 .fp8e4m3) (s r : Vec Ideal S1x1x1024 .f32) (q w : Vec Ideal S1024x1536 .bf16)
    (i : Fin 8) (d : Fin 1024) : EReal :=
  ∑ u : Fin 128, dxh q w ⟨u.val * 8 + i.val, by omega⟩ d * nrm x s r ⟨u.val * 8 + i.val, by omega⟩ d

/-! ## The body's values, named as the body spells them -/

/-- The token's combined scale, repeated along 128 lanes. -/
abbrev scl (s r : Vec Ideal S1x1x1024 .f32) : FVec Ideal S1024x128 .f32 :=
  k0_pay14 (k0_pay10 r s) (k0_pay11 r s) (k0_pay12 r s) (k0_pay13 r s)

/-- The tile of the activations at feature offset 0, and so on for the seven others: scaled by `scl`. -/
abbrev n0 (x : Vec Ideal S1024x1024 .fp8e4m3) (s r : Vec Ideal S1x1x1024 .f32) : FVec Ideal S1024x128 .f32 :=
  k0_pay16 (k0_pay10 r s) (k0_pay11 r s) (k0_pay12 r s) (k0_pay13 r s)
    (View.ld x (Rect.unit ![0, 0] ![1024, 128] inb_S1024x1024_S1024x128_0_0))
@[inherit_doc n0] abbrev n1 (x : Vec Ideal S1024x1024 .fp8e4m3) (s r : Vec Ideal S1x1x1024 .f32) : FVec Ideal S1024x128 .f32 :=
  k0_pay17 (k0_pay10 r s) (k0_pay11 r s) (k0_pay12 r s) (k0_pay13 r s)
    (View.ld x (Rect.unit ![0, 128] ![1024, 128] inb_S1024x1024_S1024x128_0_128))
@[inherit_doc n0] abbrev n2 (x : Vec Ideal S1024x1024 .fp8e4m3) (s r : Vec Ideal S1x1x1024 .f32) : FVec Ideal S1024x128 .f32 :=
  k0_pay18 (k0_pay10 r s) (k0_pay11 r s) (k0_pay12 r s) (k0_pay13 r s)
    (View.ld x (Rect.unit ![0, 256] ![1024, 128] inb_S1024x1024_S1024x128_0_256))
@[inherit_doc n0] abbrev n3 (x : Vec Ideal S1024x1024 .fp8e4m3) (s r : Vec Ideal S1x1x1024 .f32) : FVec Ideal S1024x128 .f32 :=
  k0_pay19 (k0_pay10 r s) (k0_pay11 r s) (k0_pay12 r s) (k0_pay13 r s)
    (View.ld x (Rect.unit ![0, 384] ![1024, 128] inb_S1024x1024_S1024x128_0_384))
@[inherit_doc n0] abbrev n4 (x : Vec Ideal S1024x1024 .fp8e4m3) (s r : Vec Ideal S1x1x1024 .f32) : FVec Ideal S1024x128 .f32 :=
  k0_pay20 (k0_pay10 r s) (k0_pay11 r s) (k0_pay12 r s) (k0_pay13 r s)
    (View.ld x (Rect.unit ![0, 512] ![1024, 128] inb_S1024x1024_S1024x128_0_512))
@[inherit_doc n0] abbrev n5 (x : Vec Ideal S1024x1024 .fp8e4m3) (s r : Vec Ideal S1x1x1024 .f32) : FVec Ideal S1024x128 .f32 :=
  k0_pay21 (scl s r) (View.ld x (Rect.unit ![0, 640] ![1024, 128] inb_S1024x1024_S1024x128_0_640))
@[inherit_doc n0] abbrev n6 (x : Vec Ideal S1024x1024 .fp8e4m3) (s r : Vec Ideal S1x1x1024 .f32) : FVec Ideal S1024x128 .f32 :=
  k0_pay22 (scl s r) (View.ld x (Rect.unit ![0, 768] ![1024, 128] inb_S1024x1024_S1024x128_0_768))
@[inherit_doc n0] abbrev n7 (x : Vec Ideal S1024x1024 .fp8e4m3) (s r : Vec Ideal S1x1x1024 .f32) : FVec Ideal S1024x128 .f32 :=
  k0_pay23 (scl s r) (View.ld x (Rect.unit ![0, 896] ![1024, 128] inb_S1024x1024_S1024x128_0_896))

/-- The incoming gradient times the transposed weights, for the whole block. -/
abbrev dxv (q w : Vec Ideal S1024x1536 .bf16) : FVec Ideal S1024x1024 .f32 := k0_pay26 (k0_pay24 q) w

/-- The tokens' means, a column. -/
abbrev mnv (x : Vec Ideal S1024x1024 .fp8e4m3) (s r : Vec Ideal S1x1x1024 .f32) (g : Vec Ideal S1x1024 .f32)
    (q w : Vec Ideal S1024x1536 .bf16) : FVec Ideal S1024x1 .f32 :=
  k0_pay46 (k0_pay15 g) (n6 x s r) (n7 x s r) (dxv q w)
    (k0_pay39 (k0_pay15 g) (n3 x s r) (n4 x s r) (dxv q w)
      (k0_pay31 (k0_pay15 g) (n0 x s r) (n1 x s r) (k0_pay24 q) w) (k0_pay32 (n2 x s r) (k0_pay24 q) w))
    (k0_pay40 (n5 x s r) (dxv q w))

/-! ## Each of them at an index -/

/-- The reciprocal deviations repeated along the lanes, at a token: the token's. -/
theorem rstd_lanes (r : Vec Ideal S1x1x1024 .f32) (t : Fin 1024) (l : Fin 128) : k0_pay9 r (ix2 t l) = r (ix3 0 0 t) := by
  pointwise [k0_pay9, k0_pay8]
  split_ifs <;> first | rfl | (congr 2; apply Fin.ext; dsimp only; omega)

/-- The combined scales repeated along the lanes, at a token: the product of the token's two. -/
theorem scl_apply (s r : Vec Ideal S1x1x1024 .f32) (t : Fin 1024) (l : Fin 128) :
    scl s r (ix2 t l) = s (ix3 0 0 t) * r (ix3 0 0 t) := by
  pointwise [k0_pay14, k0_pay10, k0_pay11, k0_pay12, k0_pay13, k0_pay8]
  split_ifs with h1 h2 h3 h4 h5 h6 h7 <;> first | rfl | (congr 3 <;> (apply Fin.ext; dsimp only; omega))

/-- The lane-repeated scales as a function, the form the rewriting below uses. -/
theorem scl_eq (s r : Vec Ideal S1x1x1024 .f32) : scl s r = fun i => s (ix3 0 0 (i 0)) * r (ix3 0 0 (i 0)) := by
  funext i
  obtain ⟨t, l, rfl⟩ : ∃ t l, i = ix2 t l := ⟨i 0, i 1, ValueIdx.eq_ix2 i⟩
  exact scl_apply s r t l

/-- The tile at feature offset 0 holds the normalised activations of its features; so does each of the seven others. -/
theorem n0_apply (x : Vec Ideal S1024x1024 .fp8e4m3) (s r : Vec Ideal S1x1x1024 .f32) (t : Fin 1024) (l : Fin 128) :
    n0 x s r (ix2 t l) = nrm x s r t ⟨l.val, by omega⟩ := by
  unfold n0 k0_pay16
  simp only [scl_eq]
  pointwise [nrm]

@[inherit_doc n0_apply] theorem n1_apply (x : Vec Ideal S1024x1024 .fp8e4m3) (s r : Vec Ideal S1x1x1024 .f32) (t : Fin 1024) (l : Fin 128) :
    n1 x s r (ix2 t l) = nrm x s r t ⟨128 + l.val, by omega⟩ := by
  unfold n1 k0_pay17
  simp only [scl_eq]
  pointwise [nrm]

@[inherit_doc n0_apply] theorem n2_apply (x : Vec Ideal S1024x1024 .fp8e4m3) (s r : Vec Ideal S1x1x1024 .f32) (t : Fin 1024) (l : Fin 128) :
    n2 x s r (ix2 t l) = nrm x s r t ⟨256 + l.val, by omega⟩ := by
  unfold n2 k0_pay18
  simp only [scl_eq]
  pointwise [nrm]

@[inherit_doc n0_apply] theorem n3_apply (x : Vec Ideal S1024x1024 .fp8e4m3) (s r : Vec Ideal S1x1x1024 .f32) (t : Fin 1024) (l : Fin 128) :
    n3 x s r (ix2 t l) = nrm x s r t ⟨384 + l.val, by omega⟩ := by
  unfold n3 k0_pay19
  simp only [scl_eq]
  pointwise [nrm]

@[inherit_doc n0_apply] theorem n4_apply (x : Vec Ideal S1024x1024 .fp8e4m3) (s r : Vec Ideal S1x1x1024 .f32) (t : Fin 1024) (l : Fin 128) :
    n4 x s r (ix2 t l) = nrm x s r t ⟨512 + l.val, by omega⟩ := by
  unfold n4 k0_pay20
  simp only [scl_eq]
  pointwise [nrm]

@[inherit_doc n0_apply] theorem n5_apply (x : Vec Ideal S1024x1024 .fp8e4m3) (s r : Vec Ideal S1x1x1024 .f32) (t : Fin 1024) (l : Fin 128) :
    n5 x s r (ix2 t l) = nrm x s r t ⟨640 + l.val, by omega⟩ := by
  unfold n5 k0_pay21
  simp only [scl_eq]
  pointwise [nrm]

@[inherit_doc n0_apply] theorem n6_apply (x : Vec Ideal S1024x1024 .fp8e4m3) (s r : Vec Ideal S1x1x1024 .f32) (t : Fin 1024) (l : Fin 128) :
    n6 x s r (ix2 t l) = nrm x s r t ⟨768 + l.val, by omega⟩ := by
  unfold n6 k0_pay22
  simp only [scl_eq]
  pointwise [nrm]

@[inherit_doc n0_apply] theorem n7_apply (x : Vec Ideal S1024x1024 .fp8e4m3) (s r : Vec Ideal S1x1x1024 .f32) (t : Fin 1024) (l : Fin 128) :
    n7 x s r (ix2 t l) = nrm x s r t ⟨896 + l.val, by omega⟩ := by
  unfold n7 k0_pay23
  simp only [scl_eq]
  pointwise [nrm]

/-- The product with the transposed weights at an index: the sum over the projection's columns. -/
theorem dxv_apply (q w : Vec Ideal S1024x1536 .bf16) (t d : Fin 1024) : dxv q w (ix2 t d) = dxh q w t d := by
  pointwise [k0_pay26, k0_pay24, dxh]

/-- A sum over 1024 features is the sum over 128 lanes of the 8 tiles' terms, added in the body's order from zero. -/
theorem sum_tiles (f : Fin 1024 → EReal) :
    ∑ l : Fin 128, (0 + f ⟨l.val, by omega⟩ + f ⟨128 + l.val, by omega⟩ + f ⟨256 + l.val, by omega⟩ + f ⟨384 + l.val, by omega⟩
      + f ⟨512 + l.val, by omega⟩ + f ⟨640 + l.val, by omega⟩ + f ⟨768 + l.val, by omega⟩ + f ⟨896 + l.val, by omega⟩)
      = ∑ d : Fin 1024, f d := by
  rw [← Fin.sum_mul_add_fin 8 128 f, Finset.sum_comm]
  refine Finset.sum_congr rfl fun l _ => ?_
  rw [Fin.sum_univ_eight, zero_add]
  congr 8 <;> (apply Fin.ext; simp)

/-- The tokens' means, at a token: the 8 tiles' products are summed lane by lane, then over the lanes. -/
theorem mnv_apply (x : Vec Ideal S1024x1024 .fp8e4m3) (s r : Vec Ideal S1x1x1024 .f32) (g : Vec Ideal S1x1024 .f32)
    (q w : Vec Ideal S1024x1536 .bf16) (t : Fin 1024) : mnv x s r g q w (ix2 t 0) = rowMean x s r g q w t := by
  unfold mnv k0_pay46 k0_pay42 k0_pay44 k0_pay39 k0_pay35 k0_pay37 k0_pay31 k0_pay27 k0_pay29 k0_pay32 k0_pay40
  pointwise [n0_apply, n1_apply, n2_apply, n3_apply, n4_apply, n5_apply, n6_apply, n7_apply, dxv_apply, k0_pay15]
  rw [rowMean, ← sum_tiles]
  simp only [zero_add]

/-! ## The three results of the body -/

/-- The eight tiles the body stores of the activations' gradient. -/
abbrev dxPieces (x : Vec Ideal S1024x1024 .fp8e4m3) (s r : Vec Ideal S1x1x1024 .f32) (g : Vec Ideal S1x1024 .f32)
    (q w : Vec Ideal S1024x1536 .bf16) : List (View.Piece (Elt Ideal) S1024x1024 .bf16) :=
  [⟨Rect.unit ![0, 896] ![1024, 128] inb_S1024x1024_S1024x128_0_896,
    k0_pay3 (k0_pay9 r) (k0_pay15 g) (n7 x s r) (dxv q w) (mnv x s r g q w)⟩,
   ⟨Rect.unit ![0, 768] ![1024, 128] inb_S1024x1024_S1024x128_0_768,
    k0_pay2 (k0_pay9 r) (k0_pay15 g) (n6 x s r) (dxv q w) (mnv x s r g q w)⟩,
   ⟨Rect.unit ![0, 640] ![1024, 128] inb_S1024x1024_S1024x128_0_640,
    k0_pay1 (k0_pay9 r) (k0_pay52 (k0_pay15 g) (dxv q w)) (k0_pay53 (n5 x s r) (mnv x s r g q w))⟩,
   ⟨Rect.unit ![0, 512] ![1024, 128] inb_S1024x1024_S1024x128_0_512,
    k0_pay51 (k0_pay9 r) (k0_pay15 g) (n4 x s r) (dxv q w) (mnv x s r g q w)⟩,
   ⟨Rect.unit ![0, 384] ![1024, 128] inb_S1024x1024_S1024x128_0_384,
    k0_pay50 (k0_pay9 r) (k0_pay15 g) (n3 x s r) (dxv q w) (mnv x s r g q w)⟩,
   ⟨Rect.unit ![0, 256] ![1024, 128] inb_S1024x1024_S1024x128_0_256,
    k0_pay49 (k0_pay9 r) (k0_pay15 g) (n2 x s r) (dxv q w) (mnv x s r g q w)⟩,
   ⟨Rect.unit ![0, 128] ![1024, 128] inb_S1024x1024_S1024x128_0_128,
    k0_pay48 (k0_pay9 r) (k0_pay15 g) (n1 x s r) (dxv q w) (mnv x s r g q w)⟩,
   ⟨Rect.unit ![0, 0] ![1024, 128] inb_S1024x1024_S1024x128_0_0,
    k0_pay47 (k0_pay9 r) (k0_pay15 g) (n0 x s r) (n6 x s r) (n7 x s r) (dxv q w)
      (k0_pay39 (k0_pay15 g) (n3 x s r) (n4 x s r) (dxv q w)
        (k0_pay31 (k0_pay15 g) (n0 x s r) (n1 x s r) (k0_pay24 q) w) (k0_pay32 (n2 x s r) (k0_pay24 q) w))
      (k0_pay40 (n5 x s r) (dxv q w))⟩]

/-- A stored tile that reads, at each of its indices, the function `G` of the block's coordinates, is a block of `G`. -/
theorem piece_of {R : Nat} (o : Nat) (inb : ∀ a : Fin 2, (![0, o] : Fin 2 → Nat) a + (![R, 128] : Fin 2 → Nat) a ≤ (![R, 1024] : Fin 2 → Nat) a)
    (P : (⟨2, ![R, 128]⟩ : Shape).Idx → EReal) (ho : ∀ l : Fin 128, o + l.val < 1024)
    (G : Fin R → Fin 1024 → EReal) (h : ∀ t l, P (ix2 t l) = G t ⟨o + l.val, ho l⟩)
    (x : (Rect.unit (s := ⟨2, ![R, 1024]⟩) ![0, o] ![R, 128] inb).shape.Idx) :
    P x = G ((Rect.unit (s := ⟨2, ![R, 1024]⟩) ![0, o] ![R, 128] inb).emb x 0)
      ((Rect.unit (s := ⟨2, ![R, 1024]⟩) ![0, o] ![R, 128] inb).emb x 1) := by
  refine (congrArg P (ValueIdx.eq_ix2 x)).trans ((h (x 0) (x 1)).trans ?_)
  congr 1
  · apply Fin.ext
    show (x 0).val = 0 + 1 * (x 0).val
    omega
  · apply Fin.ext
    show o + (x 1).val = o + 1 * (x 1).val
    omega

/-- Each stored tile is a block of the activations' gradient. -/
theorem dx_pieces (x : Vec Ideal S1024x1024 .fp8e4m3) (s r : Vec Ideal S1x1x1024 .f32) (g : Vec Ideal S1x1024 .f32)
    (q w : Vec Ideal S1024x1536 .bf16) :
    View.PiecesOf (fun j => dxOf x s r g q w (j 0) (j 1)) (dxPieces x s r g q w) := by
  refine ⟨?_, ?_, ?_, ?_, ?_, ?_, ?_, ?_, trivial⟩
  · refine piece_of 896 inb_S1024x1024_S1024x128_0_896 _ (fun l => by omega) (dxOf x s r g q w) fun t l => ?_
    unfold k0_pay3
    pointwise [n7_apply, k0_pay15, rstd_lanes, mnv_apply, dxv_apply, dxOf]
  · refine piece_of 768 inb_S1024x1024_S1024x128_0_768 _ (fun l => by omega) (dxOf x s r g q w) fun t l => ?_
    unfold k0_pay2
    pointwise [n6_apply, k0_pay15, rstd_lanes, mnv_apply, dxv_apply, dxOf]
  · refine piece_of 640 inb_S1024x1024_S1024x128_0_640 _ (fun l => by omega) (dxOf x s r g q w) fun t l => ?_
    unfold k0_pay1 k0_pay52 k0_pay53
    pointwise [n5_apply, k0_pay15, rstd_lanes, mnv_apply, dxv_apply, dxOf]
  · refine piece_of 512 inb_S1024x1024_S1024x128_0_512 _ (fun l => by omega) (dxOf x s r g q w) fun t l => ?_
    unfold k0_pay51
    pointwise [n4_apply, k0_pay15, rstd_lanes, mnv_apply, dxv_apply, dxOf]
  · refine piece_of 384 inb_S1024x1024_S1024x128_0_384 _ (fun l => by omega) (dxOf x s r g q w) fun t l => ?_
    unfold k0_pay50
    pointwise [n3_apply, k0_pay15, rstd_lanes, mnv_apply, dxv_apply, dxOf]
  · refine piece_of 256 inb_S1024x1024_S1024x128_0_256 _ (fun l => by omega) (dxOf x s r g q w) fun t l => ?_
    unfold k0_pay49
    pointwise [n2_apply, k0_pay15, rstd_lanes, mnv_apply, dxv_apply, dxOf]
  · refine piece_of 128 inb_S1024x1024_S1024x128_0_128 _ (fun l => by omega) (dxOf x s r g q w) fun t l => ?_
    unfold k0_pay48
    pointwise [n1_apply, k0_pay15, rstd_lanes, mnv_apply, dxv_apply, dxOf]
  · refine piece_of 0 inb_S1024x1024_S1024x128_0_0 _ (fun l => by omega) (dxOf x s r g q w) fun t l => ?_
    unfold k0_pay47
    rw [show k0_pay46 (k0_pay15 g) (n6 x s r) (n7 x s r) (dxv q w)
      (k0_pay39 (k0_pay15 g) (n3 x s r) (n4 x s r) (dxv q w)
        (k0_pay31 (k0_pay15 g) (n0 x s r) (n1 x s r) (k0_pay24 q) w) (k0_pay32 (n2 x s r) (k0_pay24 q) w))
      (k0_pay40 (n5 x s r) (dxv q w)) = mnv x s r g q w from rfl]
    pointwise [n0_apply, k0_pay15, rstd_lanes, mnv_apply, dxv_apply, dxOf]

/-- What the body leaves in the activations' gradient's block, at a token and a feature. -/
theorem dx_eq (x : Vec Ideal S1024x1024 .fp8e4m3) (s r : Vec Ideal S1x1x1024 .f32) (g : Vec Ideal S1x1024 .f32)
    (q w : Vec Ideal S1024x1536 .bf16) (j : S1024x1024.Idx) :
    View.canon (dxPieces x s r g q w) j = dxOf x s r g q w (j 0) (j 1) :=
  View.canon_apply_of_pieces (fun j => dxOf x s r g q w (j 0) (j 1)) _ (dx_pieces x s r g q w).mem j
    (View.cover_of_tiled (dxPieces x s r g q w) ![1024, 128] (by rfl) j)

/-- The eight tiles the body stores of the gain's gradient's 8-row running sum, over the sum `P` it finds. -/
abbrev dgPieces (x : Vec Ideal S1024x1024 .fp8e4m3) (s r : Vec Ideal S1x1x1024 .f32)
    (q w : Vec Ideal S1024x1536 .bf16) (P : Vec Ideal S8x1024 .f32) : List (View.Piece (Elt Ideal) S8x1024 .f32) :=
  [⟨Rect.unit ![0, 896] ![8, 128] inb_S8x1024_S8x128_0_896,
    k0_pay45 (n7 x s r) (dxv q w) (View.ld P (Rect.unit ![0, 896] ![8, 128] inb_S8x1024_S8x128_0_896))⟩,
   ⟨Rect.unit ![0, 768] ![8, 128] inb_S8x1024_S8x128_0_768,
    k0_pay43 (n6 x s r) (dxv q w) (View.ld P (Rect.unit ![0, 768] ![8, 128] inb_S8x1024_S8x128_0_768))⟩,
   ⟨Rect.unit ![0, 640] ![8, 128] inb_S8x1024_S8x128_0_640,
    k0_pay41 (n5 x s r) (dxv q w) (View.ld P (Rect.unit ![0, 640] ![8, 128] inb_S8x1024_S8x128_0_640))⟩,
   ⟨Rect.unit ![0, 512] ![8, 128] inb_S8x1024_S8x128_0_512,
    k0_pay38 (n4 x s r) (dxv q w) (View.ld P (Rect.unit ![0, 512] ![8, 128] inb_S8x1024_S8x128_0_512))⟩,
   ⟨Rect.unit ![0, 384] ![8, 128] inb_S8x1024_S8x128_0_384,
    k0_pay36 (n3 x s r) (dxv q w) (View.ld P (Rect.unit ![0, 384] ![8, 128] inb_S8x1024_S8x128_0_384))⟩,
   ⟨Rect.unit ![0, 256] ![8, 128] inb_S8x1024_S8x128_0_256,
    k0_pay34 (k0_pay33 (n2 x s r) (k0_pay24 q) w (View.ld P (Rect.unit ![0, 256] ![8, 128] inb_S8x1024_S8x128_0_256)))⟩,
   ⟨Rect.unit ![0, 128] ![8, 128] inb_S8x1024_S8x128_0_128,
    k0_pay30 (n1 x s r) (k0_pay24 q) w (View.ld P (Rect.unit ![0, 128] ![8, 128] inb_S8x1024_S8x128_0_128))⟩,
   ⟨Rect.unit ![0, 0] ![8, 128] inb_S8x1024_S8x128_0_0,
    k0_pay28 (n0 x s r) (k0_pay24 q) w (View.ld P (Rect.unit ![0, 0] ![8, 128] inb_S8x1024_S8x128_0_0))⟩]

/-- Each stored tile of the running sum is the sum found plus what the block adds. -/
theorem dg_pieces (x : Vec Ideal S1024x1024 .fp8e4m3) (s r : Vec Ideal S1x1x1024 .f32)
    (q w : Vec Ideal S1024x1536 .bf16) (P : Vec Ideal S8x1024 .f32) :
    View.PiecesOf (fun j => P (ix2 (j 0) (j 1)) + dgOf x s r q w (j 0) (j 1)) (dgPieces x s r q w P) := by
  refine ⟨?_, ?_, ?_, ?_, ?_, ?_, ?_, ?_, trivial⟩
  · refine piece_of 896 inb_S8x1024_S8x128_0_896 _ (fun l => by omega) (fun i d => P (ix2 i d) + dgOf x s r q w i d) fun i l => ?_
    unfold k0_pay45 k0_pay44
    pointwise [n7_apply, dxv_apply, dgOf]
  · refine piece_of 768 inb_S8x1024_S8x128_0_768 _ (fun l => by omega) (fun i d => P (ix2 i d) + dgOf x s r q w i d) fun i l => ?_
    unfold k0_pay43 k0_pay42
    pointwise [n6_apply, dxv_apply, dgOf]
  · refine piece_of 640 inb_S8x1024_S8x128_0_640 _ (fun l => by omega) (fun i d => P (ix2 i d) + dgOf x s r q w i d) fun i l => ?_
    unfold k0_pay41 k0_pay40
    pointwise [n5_apply, dxv_apply, dgOf]
  · refine piece_of 512 inb_S8x1024_S8x128_0_512 _ (fun l => by omega) (fun i d => P (ix2 i d) + dgOf x s r q w i d) fun i l => ?_
    unfold k0_pay38 k0_pay37
    pointwise [n4_apply, dxv_apply, dgOf]
  · refine piece_of 384 inb_S8x1024_S8x128_0_384 _ (fun l => by omega) (fun i d => P (ix2 i d) + dgOf x s r q w i d) fun i l => ?_
    unfold k0_pay36 k0_pay35
    pointwise [n3_apply, dxv_apply, dgOf]
  · refine piece_of 256 inb_S8x1024_S8x128_0_256 _ (fun l => by omega) (fun i d => P (ix2 i d) + dgOf x s r q w i d) fun i l => ?_
    unfold k0_pay34 k0_pay33 k0_pay32
    pointwise [n2_apply, dxv_apply, dgOf]
  · refine piece_of 128 inb_S8x1024_S8x128_0_128 _ (fun l => by omega) (fun i d => P (ix2 i d) + dgOf x s r q w i d) fun i l => ?_
    unfold k0_pay30 k0_pay29
    pointwise [n1_apply, dxv_apply, dgOf]
  · refine piece_of 0 inb_S8x1024_S8x128_0_0 _ (fun l => by omega) (fun i d => P (ix2 i d) + dgOf x s r q w i d) fun i l => ?_
    unfold k0_pay28 k0_pay27
    pointwise [n0_apply, dxv_apply, dgOf]

/-- The body's new running sum of the gain's gradient: the sum found plus what the block adds. -/
theorem dg_eq (x : Vec Ideal S1024x1024 .fp8e4m3) (s r : Vec Ideal S1x1x1024 .f32)
    (q w : Vec Ideal S1024x1536 .bf16) (P : Vec Ideal S8x1024 .f32) (L : List (View.Piece (Elt Ideal) S8x1024 .f32)) (j : S8x1024.Idx) :
    View.canon (dgPieces x s r q w P ++ L) j = P j + dgOf x s r q w (j 0) (j 1) :=
  (View.canon_append_of_piecesOf (fun j => P (ix2 (j 0) (j 1)) + dgOf x s r q w (j 0) (j 1)) L _ (dg_pieces x s r q w P) j
    (View.cover_of_tiled (dgPieces x s r q w P) ![8, 128] (by rfl) j)).trans
    (congrArg (· + dgOf x s r q w (j 0) (j 1)) (congrArg P (ValueIdx.eq_ix2 j).symm))

/-- The body's new weight gradient: the sum found plus what the block adds. -/
theorem dw_eq (x : Vec Ideal S1024x1024 .fp8e4m3) (s r : Vec Ideal S1x1x1024 .f32) (g : Vec Ideal S1x1024 .f32)
    (q : Vec Ideal S1024x1536 .bf16) (v : Vec Ideal S1024x1536 .f32) (j : S1024x1536.Idx) :
    k0_pay25 (scl s r) (k0_pay15 g) (n0 x s r) (n1 x s r) (n2 x s r) (n3 x s r) (n4 x s r)
      (View.ld x (Rect.unit ![0, 640] ![1024, 128] inb_S1024x1024_S1024x128_0_640))
      (View.ld x (Rect.unit ![0, 768] ![1024, 128] inb_S1024x1024_S1024x128_0_768))
      (View.ld x (Rect.unit ![0, 896] ![1024, 128] inb_S1024x1024_S1024x128_0_896)) q v j
      = v j + dwOf x s r g q (j 0) (j 1) := by
  obtain ⟨d, k, rfl⟩ : ∃ d k, j = ix2 d k := ⟨j 0, j 1, ValueIdx.eq_ix2 j⟩
  unfold k0_pay25
  pointwise [n0_apply, n1_apply, n2_apply, n3_apply, n4_apply, n5_apply, n6_apply, n7_apply, k0_pay15, k0_pay24, dwOf]
  refine congrArg _ (Finset.sum_congr rfl fun t _ => congrArg (· * q (ix2 t k)) ?_)
  split_ifs with h1 h2 h3 h4 h5 h6 h7
  · rfl
  all_goals
    rw [show (⟨_, by omega⟩ : Fin 1024) = d from Fin.ext (by dsimp only; omega)]

/-- The scaled weights, at an index. -/
theorem w_eq (w8 : Vec Ideal S1024x1536 .fp8e4m3) (ws : Vec Ideal S1x1536 .f32) (d : Fin 1024) (k : Fin 1536) :
    k0_pay5 w8 ws (ix2 d k) = w8 (ix2 d k) * ws (ix2 0 k) := by
  pointwise [k0_pay5]

/-- The sum of the running sum's 8 rows, at a feature. -/
theorem dgamma_eq (P : Vec Ideal S8x1024 .f32) (d : Fin 1024) : k0_pay4 P (ix2 0 d) = ∑ i : Fin 8, P (ix2 i d) := by
  pointwise [k0_pay4]

/-- The weight gradient's start is zero. -/
theorem dw_zero (j : S1024x1536.Idx) : (k0_pay6 (F := Ideal)) j = 0 := by
  pointwise [k0_pay6]

/-- The running sum's start is zero. -/
theorem dg_zero (j : S8x1024.Idx) : (k0_pay7 (F := Ideal)) j = 0 := by
  pointwise [k0_pay7]

end Cert.KernelIdeal.Block

end
-- ==== Proof.Points.lean ====
/- What each buffer of the kernel holds after a grid point: the point's results, from the point's blocks and what the
   point before left. Three kinds of point: the first, which fills the buffers, those between, and the last, which also
   adds up the eight rows of the gain's gradient. -/
module

public import proofs.«01_k».proof.Proof.Gen.KernelIdeal.Value
public import proofs.«01_k».proof.Proof.Block

@[expose] public section

set_option maxRecDepth 16384

noncomputable section

namespace Cert.KernelIdeal.Block

open Idealize.ShloMosaic Cert.KernelIdeal Cert.KernelIdeal.Gen Idealize.SL.Sem

variable (m : (ℓ : Loc nD τ sig) → Buf (Elt Ideal) ℓ)

/-! ## Loads of the running sum that follow stores to the tiles before -/

/-- The tile of the 8-row running sum at feature offset `l`. -/
abbrev rt (l : ℕ) (h : ∀ a, ![0, l] a + ![8, 128] a ≤ S8x1024.size a) : Rect S8x1024 :=
  Rect.unit (s := S8x1024) ![0, l] ![8, 128] h

/-- `L`, the stores so far with their payloads as the body computes them, is the list `L'`, and every tile from offset `k`
    on still reads the fill `Z`. -/
def Filled (Z : Vec Ideal S8x1024 .f32) (k : ℕ) (L L' : List (View.Piece (Elt Ideal) S8x1024 .f32)) : Prop :=
  L = L' ∧ ∀ (l : ℕ) (h), k ≤ l →
    (View.whole cc0_scratch1).readCov (Val := Elt Ideal) L (rt l h).toLoadRect = View.ld Z (rt l h)

/-- After the fill alone every tile reads the fill. -/
theorem Filled.zero (Z : Vec Ideal S8x1024 .f32) :
    Filled Z 0 [⟨Rect.unit (s := S8x1024) ![0, 0] ![8, 1024] inb_S8x1024_S8x1024_0_0, Z⟩]
      [⟨Rect.unit (s := S8x1024) ![0, 0] ![8, 1024] inb_S8x1024_S8x1024_0_0, Z⟩] :=
  ⟨rfl, fun l h _ =>
    View.readCov_fill (View.whole cc0_scratch1) (s := S8x1024) (off := ![0, 0]) inb_S8x1024_S8x1024_0_0 Z [] (rt l h) (by decide)⟩

/-- A tile's payload computed from the load of its own place is the payload computed from the fill; the tiles past it
    are untouched. -/
theorem Filled.step {Z : Vec Ideal S8x1024 .f32} {k : ℕ} {L L' : List (View.Piece (Elt Ideal) S8x1024 .f32)}
    (H : Filled Z k L L') (f : Vec Ideal S8x128 .f32 → Vec Ideal S8x128 .f32) (hk) (k' : ℕ)
    (e : k' = k + 128) :
    Filled Z k' (⟨rt k hk, f ((View.whole cc0_scratch1).readCov (Val := Elt Ideal) L (rt k hk).toLoadRect)⟩ :: L)
      (⟨rt k hk, f (View.ld Z (rt k hk))⟩ :: L') := by
  refine ⟨by rw [H.2 k hk le_rfl, H.1], fun l h hl => ?_⟩
  refine (View.readCov_skip (View.whole cc0_scratch1) (s := S8x1024) (rt k hk) _ L (rt l h).toLoadRect ?_).trans
    (H.2 l h (by omega))
  simp [LoadRect.disj, Rect.unit]
  omega

/-! ## The scaled weights -/

/-- The first point puts the scaled weights in the scratch. -/
theorem w_first (c : Dev nD) (t : Fin cfg0.N) (h0 : t.val % 48 = 0) (h1 : ¬ t.val % 48 = 47) :
    (outsAt0 m c t.val t.isLt).2.2.2.1 = k0_pay5 (iblk m c 4 t) (iblk m c 5 t) := by
  rw [outsAt0_A m c t h0 h1]
  frame_out

/-- A later point keeps them. -/
theorem w_later (c : Dev nD) (t : Fin cfg0.N) (h0 : ¬ t.val % 48 = 0) :
    (outsAt0 m c t.val t.isLt).2.2.2.1
      = (outsAt0 m c (t.val - 1) (Nat.lt_of_le_of_lt (Nat.sub_le _ _) t.isLt)).2.2.2.1 := by
  by_cases h1 : t.val % 48 = 47
  · rw [outsAt0_C m c t h0 h1]
    exact rfl
  · rw [outsAt0_B m c t h0 h1]
    exact rfl

/-! ## The gradient of the activations -/

/-- The first point's block of the gradient, over the weights it has just scaled. -/
theorem dx_first (c : Dev nD) (t : Fin cfg0.N) (h0 : t.val % 48 = 0) (h1 : ¬ t.val % 48 = 47) (u d : Fin 1024) :
    (outsAt0 m c t.val t.isLt).1 (ix2 u d)
      = dxOf (iblk m c 0 t) (iblk m c 1 t) (iblk m c 2 t) (iblk m c 3 t) (iblk m c 6 t)
          (k0_pay5 (iblk m c 4 t) (iblk m c 5 t)) u d := by
  rw [outsAt0_A m c t h0 h1]
  frame_out
  exact dx_eq (iblk m c 0 t) (iblk m c 1 t) (iblk m c 2 t) (iblk m c 3 t) (iblk m c 6 t) _ (ix2 u d)

/-- A later point's block of the gradient, over the weights it finds. -/
theorem dx_later (c : Dev nD) (t : Fin cfg0.N) (h0 : ¬ t.val % 48 = 0) (u d : Fin 1024) :
    (outsAt0 m c t.val t.isLt).1 (ix2 u d)
      = dxOf (iblk m c 0 t) (iblk m c 1 t) (iblk m c 2 t) (iblk m c 3 t) (iblk m c 6 t)
          (outsAt0 m c (t.val - 1) (Nat.lt_of_le_of_lt (Nat.sub_le _ _) t.isLt)).2.2.2.1 u d := by
  by_cases h1 : t.val % 48 = 47
  · rw [outsAt0_C m c t h0 h1]
    frame_out
    simp only [read_unread_whole]
    exact dx_eq (iblk m c 0 t) (iblk m c 1 t) (iblk m c 2 t) (iblk m c 3 t) (iblk m c 6 t) _ (ix2 u d)
  · rw [outsAt0_B m c t h0 h1]
    frame_out
    simp only [read_unread_whole]
    exact dx_eq (iblk m c 0 t) (iblk m c 1 t) (iblk m c 2 t) (iblk m c 3 t) (iblk m c 6 t) _ (ix2 u d)

/-! ## The gradient of the weights -/

/-- The first point starts the weight gradient from zero. -/
theorem dw_first (c : Dev nD) (t : Fin cfg0.N) (h0 : t.val % 48 = 0) (h1 : ¬ t.val % 48 = 47) (d : Fin 1024) (k : Fin 1536) :
    (outsAt0 m c t.val t.isLt).2.1 (ix2 d k)
      = 0 + dwOf (iblk m c 0 t) (iblk m c 1 t) (iblk m c 2 t) (iblk m c 3 t) (iblk m c 6 t) d k := by
  rw [outsAt0_A m c t h0 h1]
  frame_out
  rw [← dw_zero (ix2 d k)]
  exact dw_eq (iblk m c 0 t) (iblk m c 1 t) (iblk m c 2 t) (iblk m c 3 t) (iblk m c 6 t) _ (ix2 d k)

/-- A later point adds its block's share. -/
theorem dw_later (c : Dev nD) (t : Fin cfg0.N) (h0 : ¬ t.val % 48 = 0) (d : Fin 1024) (k : Fin 1536) :
    (outsAt0 m c t.val t.isLt).2.1 (ix2 d k)
      = (outsAt0 m c (t.val - 1) (Nat.lt_of_le_of_lt (Nat.sub_le _ _) t.isLt)).2.1 (ix2 d k)
        + dwOf (iblk m c 0 t) (iblk m c 1 t) (iblk m c 2 t) (iblk m c 3 t) (iblk m c 6 t) d k := by
  by_cases h1 : t.val % 48 = 47
  · rw [outsAt0_C m c t h0 h1]
    frame_out
    exact dw_eq (iblk m c 0 t) (iblk m c 1 t) (iblk m c 2 t) (iblk m c 3 t) (iblk m c 6 t) _ (ix2 d k)
  · rw [outsAt0_B m c t h0 h1]
    frame_out
    exact dw_eq (iblk m c 0 t) (iblk m c 1 t) (iblk m c 2 t) (iblk m c 3 t) (iblk m c 6 t) _ (ix2 d k)

/-! ## The gradient of the gain -/

/-- The first point starts the eight rows from zero. -/
theorem dg_first (c : Dev nD) (t : Fin cfg0.N) (h0 : t.val % 48 = 0) (h1 : ¬ t.val % 48 = 47) (i : Fin 8) (d : Fin 1024) :
    (outsAt0 m c t.val t.isLt).2.2.2.2 (ix2 i d)
      = 0 + dgOf (iblk m c 0 t) (iblk m c 1 t) (iblk m c 2 t) (iblk m c 6 t)
          (k0_pay5 (iblk m c 4 t) (iblk m c 5 t)) i d := by
  rw [outsAt0_A m c t h0 h1]
  frame_out
  have H := ((((((((Filled.zero (k0_pay7 (F := Ideal))).step (k0_pay28 (n0 (iblk m c 0 t) (iblk m c 1 t) (iblk m c 2 t)) (k0_pay24 (iblk m c 6 t)) (k0_pay5 (iblk m c 4 t) (iblk m c 5 t))) inb_S8x1024_S8x128_0_0 128 rfl).step
    (k0_pay30 (n1 (iblk m c 0 t) (iblk m c 1 t) (iblk m c 2 t)) (k0_pay24 (iblk m c 6 t)) (k0_pay5 (iblk m c 4 t) (iblk m c 5 t))) inb_S8x1024_S8x128_0_128 256 rfl).step
    (fun p => k0_pay34 (k0_pay33 (n2 (iblk m c 0 t) (iblk m c 1 t) (iblk m c 2 t)) (k0_pay24 (iblk m c 6 t)) (k0_pay5 (iblk m c 4 t) (iblk m c 5 t)) p)) inb_S8x1024_S8x128_0_256 384 rfl).step
    (k0_pay36 (n3 (iblk m c 0 t) (iblk m c 1 t) (iblk m c 2 t)) (dxv (iblk m c 6 t) (k0_pay5 (iblk m c 4 t) (iblk m c 5 t)))) inb_S8x1024_S8x128_0_384 512 rfl).step
    (k0_pay38 (n4 (iblk m c 0 t) (iblk m c 1 t) (iblk m c 2 t)) (dxv (iblk m c 6 t) (k0_pay5 (iblk m c 4 t) (iblk m c 5 t)))) inb_S8x1024_S8x128_0_512 640 rfl).step
    (k0_pay41 (n5 (iblk m c 0 t) (iblk m c 1 t) (iblk m c 2 t)) (dxv (iblk m c 6 t) (k0_pay5 (iblk m c 4 t) (iblk m c 5 t)))) inb_S8x1024_S8x128_0_640 768 rfl).step
    (k0_pay43 (n6 (iblk m c 0 t) (iblk m c 1 t) (iblk m c 2 t)) (dxv (iblk m c 6 t) (k0_pay5 (iblk m c 4 t) (iblk m c 5 t)))) inb_S8x1024_S8x128_0_768 896 rfl).step
    (k0_pay45 (n7 (iblk m c 0 t) (iblk m c 1 t) (iblk m c 2 t)) (dxv (iblk m c 6 t) (k0_pay5 (iblk m c 4 t) (iblk m c 5 t)))) inb_S8x1024_S8x128_0_896 1024 rfl
  rw [← dg_zero (ix2 i d)]
  exact (congrFun (congrArg View.canon H.1) (ix2 i d)).trans
    (dg_eq (iblk m c 0 t) (iblk m c 1 t) (iblk m c 2 t) (iblk m c 6 t) _ (k0_pay7 (F := Ideal))
      [⟨Rect.unit (s := S8x1024) ![0, 0] ![8, 1024] inb_S8x1024_S8x1024_0_0, k0_pay7 (F := Ideal)⟩] (ix2 i d))

/-- A later point adds its block's share to each row. -/
theorem dg_later (c : Dev nD) (t : Fin cfg0.N) (h0 : ¬ t.val % 48 = 0) (i : Fin 8) (d : Fin 1024) :
    (outsAt0 m c t.val t.isLt).2.2.2.2 (ix2 i d)
      = (outsAt0 m c (t.val - 1) (Nat.lt_of_le_of_lt (Nat.sub_le _ _) t.isLt)).2.2.2.2 (ix2 i d)
        + dgOf (iblk m c 0 t) (iblk m c 1 t) (iblk m c 2 t) (iblk m c 6 t)
          (outsAt0 m c (t.val - 1) (Nat.lt_of_le_of_lt (Nat.sub_le _ _) t.isLt)).2.2.2.1 i d := by
  by_cases h1 : t.val % 48 = 47
  · rw [outsAt0_C m c t h0 h1]
    frame_out
    simp only [read_unread_whole]
    exact dg_eq (iblk m c 0 t) (iblk m c 1 t) (iblk m c 2 t) (iblk m c 6 t) _ _ [] (ix2 i d)
  · rw [outsAt0_B m c t h0 h1]
    frame_out
    simp only [read_unread_whole]
    exact dg_eq (iblk m c 0 t) (iblk m c 1 t) (iblk m c 2 t) (iblk m c 6 t) _ _ [] (ix2 i d)

/-- The last point adds up the eight rows. -/
theorem dgamma_last (c : Dev nD) (t : Fin cfg0.N) (h0 : ¬ t.val % 48 = 0) (h1 : t.val % 48 = 47) (d : Fin 1024) :
    (outsAt0 m c t.val t.isLt).2.2.1 (ix2 0 d)
      = ∑ i : Fin 8, (outsAt0 m c t.val t.isLt).2.2.2.2 (ix2 i d) := by
  refine Eq.trans ?_ (Finset.sum_congr rfl fun i _ => (dg_later m c t h0 i d).symm)
  rw [outsAt0_C m c t h0 h1]
  frame_out
  simp only [read_unread_whole]
  refine (dgamma_eq _ d).trans (Finset.sum_congr rfl fun i _ => ?_)
  refine (congrFun (View.readCov_eq_canon' (s := S8x1024) (View.whole cc0_scratch1)
    (dgPieces (iblk m c 0 t) (iblk m c 1 t) (iblk m c 2 t) (iblk m c 6 t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2)
    (Rect.unit (s := S8x1024) ![0, 0] ![8, 1024] inb_S8x1024_S8x1024_0_0).toLoadRect) (ix2 i d)).trans
    (Eq.trans (congrArg (View.canon _) ?_) (dg_eq (iblk m c 0 t) (iblk m c 1 t) (iblk m c 2 t) (iblk m c 6 t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 [] (ix2 i d)))
  funext a
  refine Fin.ext ?_
  match a with
  | ⟨0, _⟩ => simp [LoadRect.idx, Rect.unit]
  | ⟨1, _⟩ => simp [LoadRect.idx, Rect.unit]

end Cert.KernelIdeal.Block

end
-- ==== Proof.Math.lean ====
/- The three results as mathematics on the arguments, token by token: 24 sequences of 2048 tokens are numbered through,
   49152 tokens in all. Both programs are shown to compute these formulas. -/
module

public import proofs.«01_k».proof.Proof.Gen.KernelIdeal.Skeleton
public import Idealize.ShloMosaic.Lib.Pointwise

@[expose] public section

noncomputable section

namespace Cert.Proof.Math

open Idealize.ShloMosaic

/-- The sequence token `T` belongs to. -/
abbrev seqOf (T : Fin 49152) : Fin 24 := ⟨T.val / 2048, by omega⟩

/-- The place of token `T` in its sequence. -/
abbrev posOf (T : Fin 49152) : Fin 2048 := ⟨T.val % 2048, by omega⟩

variable (X : Fin 49152 → Fin 1024 → EReal) (S R : Fin 49152 → EReal) (g : Fin 1024 → EReal)
  (W : Fin 1024 → Fin 1536 → EReal) (Q : Fin 49152 → Fin 1536 → EReal)

/-- The normalised activation of token `T`, feature `d`: the stored value times its scale and its reciprocal root. -/
def nrm (T : Fin 49152) (d : Fin 1024) : EReal := X T d * (S T * R T)

/-- The gradient at the projection's input: the incoming gradient times the weights. -/
def dxh (T : Fin 49152) (d : Fin 1024) : EReal := ∑ k : Fin 1536, Q T k * W d k

/-- The mean over the features that the normalisation's gradient subtracts. -/
def rowMean (T : Fin 49152) : EReal :=
  (∑ d : Fin 1024, dxh W Q T d * nrm X S R T d * g d) * Ideal.ofBits .f32 0x3A800000#32

/-- The gradient of the activations. -/
def dx (T : Fin 49152) (d : Fin 1024) : EReal :=
  R T * (dxh W Q T d * g d - nrm X S R T d * rowMean X S R g W Q T)

/-- The gradient of the weights. -/
def dw (d : Fin 1024) (k : Fin 1536) : EReal := ∑ T : Fin 49152, nrm X S R T d * g d * Q T k

/-- The gradient of the gain. -/
def dgamma (d : Fin 1024) : EReal := ∑ T : Fin 49152, dxh W Q T d * nrm X S R T d

end Cert.Proof.Math

end
-- ==== Proof.KernelArgs.lean ====
/- The kernel's input blocks, read off its arguments. -/
module

public import proofs.«01_k».proof.Proof.Gen.KernelIdeal.Frame
public import proofs.«01_k».proof.Proof.Math
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen Idealize.SL.Sem Cert.Proof.Math

variable (m : (ℓ : Loc nD τ sig) → Buf (Elt Ideal) ℓ)

/-- The stored activations, by token and feature. -/
abbrev X (c : Dev nD) (T : Fin 49152) (d : Fin 1024) : EReal := m ((c : Thread nD τ).loc main_arg0) (ix3 (seqOf T) (posOf T) d)
/-- The activations' scale, by token. -/
abbrev S (c : Dev nD) (T : Fin 49152) : EReal := m ((c : Thread nD τ).loc main_arg1) (ix2 (seqOf T) (posOf T))
/-- The reciprocal root, by token. -/
abbrev R (c : Dev nD) (T : Fin 49152) : EReal := m ((c : Thread nD τ).loc main_arg2) (ix2 (seqOf T) (posOf T))
/-- The gain, by feature. -/
abbrev g (c : Dev nD) (d : Fin 1024) : EReal := m ((c : Thread nD τ).loc main_arg3) (ix1 d)
/-- The stored weights, by feature and column. -/
abbrev w (c : Dev nD) (d : Fin 1024) (k : Fin 1536) : EReal := m ((c : Thread nD τ).loc main_arg4) (ix2 d k)
/-- The weights' scale, by column. -/
abbrev ws (c : Dev nD) (k : Fin 1536) : EReal := m ((c : Thread nD τ).loc main_arg5) (ix1 k)
/-- The weights with their column's scale. -/
abbrev W (c : Dev nD) (d : Fin 1024) (k : Fin 1536) : EReal := w m c d k * ws m c k
/-- The incoming gradient, by token and column. -/
abbrev Q (c : Dev nD) (T : Fin 49152) (k : Fin 1536) : EReal := m ((c : Thread nD τ).loc main_arg6) (ix3 (seqOf T) (posOf T) k)

/-- The token at place `u` of block `t`. -/
abbrev tok (t : Fin cfg0.N) (u : Fin 1024) : Fin 49152 :=
  ⟨t.val * 1024 + u.val, by have := lt_of_lt_of_eq t.isLt N_0; omega⟩

/-- Where each input window's block lies, decided over the grid. -/
theorem idx : ∀ t : Fin cfg0.N,
    (win0_0.index t = ![t.val, 0]) ∧ (win0_1.index t = ![t.val, 0, 0]) ∧ (win0_2.index t = ![t.val, 0, 0])
    ∧ (win0_3.index t = ![0, 0]) ∧ (win0_4.index t = ![0, 0]) ∧ (win0_5.index t = ![0, 0]) ∧ (win0_6.index t = ![t.val, 0]) :=
  (by decide +kernel : ∀ t : Fin grid0.N,
    (win0_0.index t = ![t.val, 0]) ∧ (win0_1.index t = ![t.val, 0, 0]) ∧ (win0_2.index t = ![t.val, 0, 0])
    ∧ (win0_3.index t = ![0, 0]) ∧ (win0_4.index t = ![0, 0]) ∧ (win0_5.index t = ![0, 0]) ∧ (win0_6.index t = ![t.val, 0]))

theorem blk_x (c : Dev nD) (t : Fin cfg0.N) (u d : Fin 1024) : iblk m c 0 t (ix2 u d) = X m c (tok t u) d := by
  blk_ext! [iblk, V, idx t]
theorem blk_s (c : Dev nD) (t : Fin cfg0.N) (u : Fin 1024) : iblk m c 1 t (ix3 0 0 u) = S m c (tok t u) := by
  blk_ext! [iblk, V, idx t]
theorem blk_r (c : Dev nD) (t : Fin cfg0.N) (u : Fin 1024) : iblk m c 2 t (ix3 0 0 u) = R m c (tok t u) := by
  blk_ext! [iblk, V, idx t]
theorem blk_g (c : Dev nD) (t : Fin cfg0.N) (d : Fin 1024) : iblk m c 3 t (ix2 0 d) = g m c d := by
  blk_ext! [iblk, V, idx t]
theorem blk_w (c : Dev nD) (t : Fin cfg0.N) (d : Fin 1024) (k : Fin 1536) :
    iblk m c 4 t (ix2 d k) = w m c d k := by
  blk_ext! [iblk, V, idx t]
theorem blk_ws (c : Dev nD) (t : Fin cfg0.N) (k : Fin 1536) :
    iblk m c 5 t (ix2 0 k) = ws m c k := by
  blk_ext! [iblk, V, idx t]
theorem blk_q (c : Dev nD) (t : Fin cfg0.N) (u : Fin 1024) (k : Fin 1536) : iblk m c 6 t (ix2 u k) = Q m c (tok t u) k := by
  blk_ext! [iblk, V, idx t]

end Cert.KernelIdeal.Block

end
-- ==== Proof.KernelArrays.lean ====
/- What the kernel's three result arrays hold after the run, as the formulas of Math.lean on its arguments. -/
module

public import proofs.«01_k».proof.Proof.Points
public import proofs.«01_k».proof.Proof.KernelArgs

@[expose] public section

set_option maxRecDepth 16384

noncomputable section

namespace Cert.KernelIdeal.Block

open Idealize.ShloMosaic Idealize.ShloMosaic.TcCoe Cert.KernelIdeal Cert.KernelIdeal.Gen Idealize.SL.Sem Cert.Proof

variable (m : (ℓ : Loc nD τ sig) → Buf (Elt Ideal) ℓ)

/-! ## One block's values, by token -/

/-- The scaled weights, as the array the scratch holds. -/
def Wv (c : Dev nD) : Vec Ideal S1024x1536 .bf16 := fun j => W m c (j 0) (j 1)

/-- What the first point writes to the scratch is the scaled weights, whichever point's blocks it is computed from. -/
theorem w_blk (c : Dev nD) (t : Fin cfg0.N) : k0_pay5 (iblk m c 4 t) (iblk m c 5 t) = Wv m c := by
  funext j
  refine (congrArg _ (ValueIdx.eq_ix2 j)).trans ((w_eq (iblk m c 4 t) (iblk m c 5 t) (j 0) (j 1)).trans ?_)
  exact congrArg₂ (fun a b : EReal => a * b) (blk_w m c t (j 0) (j 1)) (blk_ws m c t (j 1))

/-- After every point the scratch holds the scaled weights. -/
theorem w_all (c : Dev nD) : ∀ (n : ℕ) (h : n < cfg0.N), (outsAt0 m c n h).2.2.2.1 = Wv m c := by
  intro n
  induction n with
  | zero => exact fun h => (w_first m c ⟨0, h⟩ rfl (by show ¬ 0 % 48 = 47; decide)).trans (w_blk m c _)
  | succ n ih =>
    intro h
    have hN : n + 1 < 48 := lt_of_lt_of_eq h N_0
    exact (w_later m c ⟨n + 1, h⟩ (by show ¬ (n + 1) % 48 = 0; omega)).trans (ih _)

/-- The block's normalised activations are the tokens'. -/
theorem nrm_blk (c : Dev nD) (t : Fin cfg0.N) (u d : Fin 1024) :
    nrm (iblk m c 0 t) (iblk m c 1 t) (iblk m c 2 t) u d = Math.nrm (X m c) (S m c) (R m c) (tok t u) d := by
  unfold nrm Math.nrm
  exact congrArg₂ (fun a b : EReal => a * b) (blk_x m c t u d)
    (congrArg₂ (fun a b : EReal => a * b) (blk_s m c t u) (blk_r m c t u))

/-- The block's gradients at the projection's input are the tokens'. -/
theorem dxh_blk (c : Dev nD) (t : Fin cfg0.N) (u d : Fin 1024) :
    dxh (iblk m c 6 t) (Wv m c) u d = Math.dxh (W m c) (Q m c) (tok t u) d := by
  unfold dxh Math.dxh
  exact Finset.sum_congr rfl fun k _ => congrArg (fun a : EReal => a * W m c d k) (blk_q m c t u k)

/-- The block's row means are the tokens'. -/
theorem rowMean_blk (c : Dev nD) (t : Fin cfg0.N) (u : Fin 1024) :
    rowMean (iblk m c 0 t) (iblk m c 1 t) (iblk m c 2 t) (iblk m c 3 t) (iblk m c 6 t) (Wv m c) u
      = Math.rowMean (X m c) (S m c) (R m c) (g m c) (W m c) (Q m c) (tok t u) := by
  unfold rowMean Math.rowMean
  refine congrArg (fun a : EReal => a * _) (Finset.sum_congr rfl fun d _ => ?_)
  rw [nrm_blk, dxh_blk]
  exact congrArg (fun a : EReal => _ * a) (blk_g m c t d)

/-- The block's gradients of the activations are the tokens'. -/
theorem dx_blk (c : Dev nD) (t : Fin cfg0.N) (u d : Fin 1024) :
    dxOf (iblk m c 0 t) (iblk m c 1 t) (iblk m c 2 t) (iblk m c 3 t) (iblk m c 6 t) (Wv m c) u d
      = Math.dx (X m c) (S m c) (R m c) (g m c) (W m c) (Q m c) (tok t u) d := by
  unfold dxOf Math.dx
  rw [nrm_blk, dxh_blk, rowMean_blk]
  exact congrArg₂ (fun a b : EReal => a * (Math.dxh (W m c) (Q m c) (tok t u) d * b - _)) (blk_r m c t u) (blk_g m c t d)

/-- The block's share of the weight gradient is a sum over its tokens. -/
theorem dw_blk (c : Dev nD) (t : Fin cfg0.N) (d : Fin 1024) (k : Fin 1536) :
    dwOf (iblk m c 0 t) (iblk m c 1 t) (iblk m c 2 t) (iblk m c 3 t) (iblk m c 6 t) d k
      = ∑ u : Fin 1024, Math.nrm (X m c) (S m c) (R m c) (tok t u) d * g m c d * Q m c (tok t u) k := by
  unfold dwOf
  refine Finset.sum_congr rfl fun u _ => ?_
  rw [nrm_blk]
  exact congrArg₂ (fun a b : EReal => _ * a * b) (blk_g m c t d) (blk_q m c t u k)

/-- The block's share of the gain's gradient, row by row, is a sum over the row's tokens. -/
theorem dg_blk (c : Dev nD) (t : Fin cfg0.N) (i : Fin 8) (d : Fin 1024) :
    dgOf (iblk m c 0 t) (iblk m c 1 t) (iblk m c 2 t) (iblk m c 6 t) (Wv m c) i d
      = ∑ u : Fin 128, Math.dxh (W m c) (Q m c) (tok t ⟨u.val * 8 + i.val, by omega⟩) d
          * Math.nrm (X m c) (S m c) (R m c) (tok t ⟨u.val * 8 + i.val, by omega⟩) d := by
  unfold dgOf
  exact Finset.sum_congr rfl fun u _ => by rw [nrm_blk, dxh_blk]

/-! ## After each point, and after the last -/

/-- Every point's block of the gradient of the activations. -/
theorem dx_at (c : Dev nD) (t : Fin cfg0.N) (u d : Fin 1024) :
    (outsAt0 m c t.val t.isLt).1 (ix2 u d)
      = Math.dx (X m c) (S m c) (R m c) (g m c) (W m c) (Q m c) (tok t u) d := by
  refine Eq.trans ?_ (dx_blk m c t u d)
  by_cases h0 : t.val % 48 = 0
  · rw [dx_first m c t h0 (by omega) u d, w_blk]
  · rw [dx_later m c t h0 u d, w_all]

/-- The last grid point. -/
abbrev tl : Fin cfg0.N := ⟨47, lt_of_lt_of_eq (by decide) N_0.symm⟩

/-- After the last point the weight gradient is the sum of all blocks' shares. -/
theorem dw_end (c : Dev nD) (d : Fin 1024) (k : Fin 1536) :
    (outsAt0 m c tl.val tl.isLt).2.1 (ix2 d k)
      = 0 + ∑ p : Fin cfg0.N, ∑ u : Fin 1024, Math.nrm (X m c) (S m c) (R m c) (tok p u) d * g m c d * Q m c (tok p u) k :=
  Pipeline.eq_sum_fin_of_reset_step_apply_last
    (f := fun n h (i : Fin 1024 × Fin 1536) => ((outsAt0 m c n h).2.1 (ix2 i.1 i.2) : EReal)) 48 (fun _ => 0)
    (fun p i => ∑ u : Fin 1024, Math.nrm (X m c) (S m c) (R m c) (tok p u) i.1 * g m c i.1 * Q m c (tok p u) i.2)
    (fun t h0 i => (dw_first m c t h0 (by omega) i.1 i.2).trans (congrArg (fun a : EReal => 0 + a) (dw_blk m c t i.1 i.2)))
    (fun t h0 i => (dw_later m c t h0 i.1 i.2).trans (congrArg (fun a : EReal => _ + a) (dw_blk m c t i.1 i.2)))
    (le_of_eq N_0) tl N_0.symm (d, k)

/-- After the last point each of the eight rows is the sum of all blocks' shares. -/
theorem dg_end (c : Dev nD) (i : Fin 8) (d : Fin 1024) :
    (outsAt0 m c tl.val tl.isLt).2.2.2.2 (ix2 i d)
      = 0 + ∑ p : Fin cfg0.N, ∑ u : Fin 128, Math.dxh (W m c) (Q m c) (tok p ⟨u.val * 8 + i.val, by omega⟩) d
          * Math.nrm (X m c) (S m c) (R m c) (tok p ⟨u.val * 8 + i.val, by omega⟩) d :=
  Pipeline.eq_sum_fin_of_reset_step_apply_last
    (f := fun n h (i : Fin 8 × Fin 1024) => ((outsAt0 m c n h).2.2.2.2 (ix2 i.1 i.2) : EReal)) 48 (fun _ => 0)
    (fun p i => ∑ u : Fin 128, Math.dxh (W m c) (Q m c) (tok p ⟨u.val * 8 + i.1.val, by omega⟩) i.2
          * Math.nrm (X m c) (S m c) (R m c) (tok p ⟨u.val * 8 + i.1.val, by omega⟩) i.2)
    (fun t h0 i => by
      refine (dg_first m c t h0 (by omega) i.1 i.2).trans (congrArg (fun a : EReal => 0 + a) ?_)
      rw [w_blk]
      exact dg_blk m c t i.1 i.2)
    (fun t h0 i => by
      refine (dg_later m c t h0 i.1 i.2).trans (congrArg (fun a : EReal => _ + a) ?_)
      rw [w_all]
      exact dg_blk m c t i.1 i.2)
    (le_of_eq N_0) tl N_0.symm (i, d)

/-! ## Sums over blocks, places and rows, as sums over tokens -/

/-- A sum over the blocks and the places in a block is a sum over the tokens. -/
theorem sum_tok (f : Fin 49152 → EReal) : ∑ p : Fin cfg0.N, ∑ u : Fin 1024, f (tok p u) = ∑ T, f T := by
  have e : ∑ p : Fin cfg0.N, ∑ u : Fin 1024, f (tok p u)
      = ∑ p : Fin 48, ∑ u : Fin 1024, f ⟨p.val * 1024 + u.val, by omega⟩ :=
    Fintype.sum_equiv (finCongr N_0) _ _ fun p => rfl
  rw [e]
  exact Fin.sum_mul_add_fin 48 1024 f

/-- The same with a block's 1024 places taken row by row, eight rows of 128. -/
theorem sum_rows (f : Fin 49152 → EReal) :
    ∑ i : Fin 8, ∑ p : Fin cfg0.N, ∑ u : Fin 128, f (tok p ⟨u.val * 8 + i.val, by omega⟩) = ∑ T, f T := by
  rw [Finset.sum_comm, ← sum_tok f]
  refine Finset.sum_congr rfl fun p _ => ?_
  rw [Finset.sum_comm]
  exact Fin.sum_mul_add_fin 128 8 fun u => f (tok p u)

/-! ## The three arrays -/

/-- The first result: the gradient of the activations, at each token and feature. -/
theorem res_dx (c : Dev nD) (T : Fin 49152) (d : Fin 1024) :
    Value.G7 m c (ix2 T d) = Math.dx (X m c) (S m c) (R m c) (g m c) (W m c) (Q m c) T d := by
  have hp : Value.pt7Of (ix2 T d) = T.val / 1024 := by
    show 1 * (T.val / 1024 - 0) + 1 * (d.val / 1024 - 0) = _
    omega
  have hlt : T.val / 1024 < cfg0.N := lt_of_lt_of_eq (by omega) N_0.symm
  have hl : Value.loc7Of (ix2 T d) = ix2 ⟨T.val % 1024, by omega⟩ d := by
    funext a; apply Fin.ext
    match a with
    | ⟨0, _⟩ => rfl
    | ⟨1, _⟩ => show d.val % 1024 = d.val; omega
  unfold Value.G7
  rw [dif_pos (by rw [hp]; exact hlt), hl, Value.fold0_congr m c _ _ (T.val / 1024) (by omega) hp, ← Value.outsAt0_sweep]
  refine (dx_at m c ⟨T.val / 1024, hlt⟩ _ d).trans (congrArg (fun T => Math.dx _ _ _ _ _ _ T d) (Fin.ext ?_))
  show T.val / 1024 * 1024 + T.val % 1024 = T.val
  omega

/-- The second result: the gradient of the weights, at each feature and column. -/
theorem res_dw (c : Dev nD) (d : Fin 1024) (k : Fin 1536) :
    Value.G8 m c (ix2 d k) = Math.dw (X m c) (S m c) (R m c) (g m c) (Q m c) d k := by
  rw [Value.G8_last, ← Value.outsAt0_sweep]
  refine (dw_end m c d k).trans ((zero_add _).trans ?_)
  exact sum_tok fun T => Math.nrm (X m c) (S m c) (R m c) T d * g m c d * Q m c T k

/-- The third result: the gradient of the gain, at each feature. -/
theorem res_dgamma (c : Dev nD) (d : Fin 1024) :
    Value.G9 m c (ix2 0 d) = Math.dgamma (X m c) (S m c) (R m c) (W m c) (Q m c) d := by
  rw [Value.G9_last, ← Value.outsAt0_sweep]
  refine (dgamma_last m c tl (by decide) (by decide) d).trans ?_
  refine (Finset.sum_congr rfl fun i _ => (dg_end m c i d).trans (zero_add _)).trans ?_
  exact sum_rows fun T => Math.dxh (W m c) (Q m c) T d * Math.nrm (X m c) (S m c) (R m c) T d

end Cert.KernelIdeal.Block

end
-- ==== Proof.Reference.lean ====
/- What the reference's body computes, as the formulas of Math.lean, and its blocks read off its arguments. The reference
   is one call on whole arrays: a grid of one point whose blocks are the arrays. -/
module

public import proofs.«01_k».proof.Proof.Gen.ReferenceIdeal.Value
public import proofs.«01_k».proof.Proof.Math
public import Idealize.ShloMosaic.Lib.Pipeline.ValueKit

@[expose] public section

set_option maxRecDepth 16384

noncomputable section

namespace Cert.ReferenceIdeal.Whole

open Idealize.ShloMosaic Idealize.ShloMosaic.TcCoe Cert.ReferenceIdeal Cert.ReferenceIdeal.Gen Idealize.SL.Sem Cert.Proof
open Cert.Proof.Math (seqOf posOf)

/-! ## The body's results, read at an index -/

/-- The constant the row sums are divided by is 1024, so the quotient is the product with the other program's constant. -/
theorem div_1024 (a : EReal) : Ideal.div a (Ideal.ofBits .f32 0x44800000#32) = a * Ideal.ofBits .f32 0x3A800000#32 := by
  have h1 : Ideal.ofBits .f32 0x44800000#32 = ((1024 : ℝ) : EReal) := by
    simp [Ideal.ofBits, Ideal.ieee, -EReal.coe_mul]; norm_num
  have h2 : Ideal.ofBits .f32 0x3A800000#32 = ((1 / 1024 : ℝ) : EReal) := by
    simp [Ideal.ofBits, Ideal.ieee, -EReal.coe_mul]; norm_num
  rw [h1, h2]
  exact Ideal.div_coe (by norm_num) a

section Body

variable (x : Vec Ideal S49152x1024 .fp8e4m3) (s r : Vec Ideal S49152x1 .f32) (g : Vec Ideal S1x1024 .f32)
  (w : Vec Ideal S1024x1536 .fp8e4m3) (ws : Vec Ideal S1x1536 .f32) (q : Vec Ideal S49152x1536 .bf16)

/-- The normalised activations: value times scale times reciprocal root, in that order. -/
theorem nrm_apply (T : Fin 49152) (d : Fin 1024) :
    k0_pay2 x s r (ix2 T d) = Math.nrm (fun T d => x (ix2 T d)) (fun T => s (ix2 T 0)) (fun T => r (ix2 T 0)) T d := by
  pointwise [k0_pay2, Math.nrm]
  exact mul_assoc (G := EReal) _ _ _

/-- The gradients at the projection's input. -/
theorem dxh_apply (T : Fin 49152) (d : Fin 1024) :
    k0_pay5 q w ws (ix2 T d) = Math.dxh (fun d k => w (ix2 d k) * ws (ix2 0 k)) (fun T k => q (ix2 T k)) T d := by
  pointwise [k0_pay5, k0_pay3, Math.dxh]

/-- The weight gradient. -/
theorem dw_apply (d : Fin 1024) (k : Fin 1536) :
    k0_pay4 x s r g q (ix2 d k) = Math.dw (fun T d => x (ix2 T d)) (fun T => s (ix2 T 0)) (fun T => r (ix2 T 0))
      (fun d => g (ix2 0 d)) (fun T k => q (ix2 T k)) d k := by
  pointwise [k0_pay4, k0_pay3, nrm_apply, Math.dw]

/-- The gain's gradient. -/
theorem dgamma_apply (d : Fin 1024) :
    k0_pay6 x s r q w ws (ix2 0 d) = Math.dgamma (fun T d => x (ix2 T d)) (fun T => s (ix2 T 0)) (fun T => r (ix2 T 0))
      (fun d k => w (ix2 d k) * ws (ix2 0 k)) (fun T k => q (ix2 T k)) d := by
  pointwise [k0_pay6, nrm_apply, dxh_apply, Math.dgamma]

/-- The gradient of the activations. -/
theorem dx_apply (T : Fin 49152) (d : Fin 1024) :
    k0_pay1 (k0_pay2 x s r) (k0_pay5 q w ws) (k0_pay7 g) r (ix2 T d)
      = Math.dx (fun T d => x (ix2 T d)) (fun T => s (ix2 T 0)) (fun T => r (ix2 T 0)) (fun d => g (ix2 0 d))
          (fun d k => w (ix2 d k) * ws (ix2 0 k)) (fun T k => q (ix2 T k)) T d := by
  pointwise [k0_pay1, k0_pay7, nrm_apply, dxh_apply, Math.dx, Math.rowMean]
  rw [div_1024]
  refine congrArg (fun a : EReal => r (ix2 T 0) * (_ - _ * (a * _))) (Finset.sum_congr rfl fun e _ => ?_)
  exact mul_right_comm (G := EReal) _ _ _

end Body

variable (m : (ℓ : Loc nD τ sig) → Buf (Elt Ideal) ℓ)

/-! ## The arguments, by token, and the blocks -/

/-- The stored activations, by token and feature. -/
abbrev X (c : Dev nD) (T : Fin 49152) (d : Fin 1024) : EReal := m ((c : Thread nD τ).loc main_arg0) (ix3 (seqOf T) (posOf T) d)
/-- The activations' scale, by token. -/
abbrev S (c : Dev nD) (T : Fin 49152) : EReal := m ((c : Thread nD τ).loc main_arg1) (ix2 (seqOf T) (posOf T))
/-- The reciprocal root, by token. -/
abbrev R (c : Dev nD) (T : Fin 49152) : EReal := m ((c : Thread nD τ).loc main_arg2) (ix2 (seqOf T) (posOf T))
/-- The gain, by feature. -/
abbrev g (c : Dev nD) (d : Fin 1024) : EReal := m ((c : Thread nD τ).loc main_arg3) (ix1 d)
/-- The stored weights, by feature and column. -/
abbrev w (c : Dev nD) (d : Fin 1024) (k : Fin 1536) : EReal := m ((c : Thread nD τ).loc main_arg4) (ix2 d k)
/-- The weights' scale, by column. -/
abbrev ws (c : Dev nD) (k : Fin 1536) : EReal := m ((c : Thread nD τ).loc main_arg5) (ix1 k)
/-- The weights with their column's scale. -/
abbrev W (c : Dev nD) (d : Fin 1024) (k : Fin 1536) : EReal := w m c d k * ws m c k
/-- The incoming gradient, by token and column. -/
abbrev Q (c : Dev nD) (T : Fin 49152) (k : Fin 1536) : EReal := m ((c : Thread nD τ).loc main_arg6) (ix3 (seqOf T) (posOf T) k)

/-- Every window's block lies at the origin, decided over the grid. -/
theorem idx : ∀ t : Fin cfg0.N,
    (win0_0.index t = ![0, 0]) ∧ (win0_1.index t = ![0, 0]) ∧ (win0_2.index t = ![0, 0])
    ∧ (win0_3.index t = ![0, 0]) ∧ (win0_4.index t = ![0, 0]) ∧ (win0_5.index t = ![0, 0]) ∧ (win0_6.index t = ![0, 0])
    ∧ (win0_7.index t = ![0, 0]) ∧ (win0_8.index t = ![0, 0]) ∧ (win0_9.index t = ![0, 0]) :=
  (by decide +kernel : ∀ t : Fin grid0.N,
    (win0_0.index t = ![0, 0]) ∧ (win0_1.index t = ![0, 0]) ∧ (win0_2.index t = ![0, 0])
    ∧ (win0_3.index t = ![0, 0]) ∧ (win0_4.index t = ![0, 0]) ∧ (win0_5.index t = ![0, 0]) ∧ (win0_6.index t = ![0, 0])
    ∧ (win0_7.index t = ![0, 0]) ∧ (win0_8.index t = ![0, 0]) ∧ (win0_9.index t = ![0, 0]))

theorem blk_x (c : Dev nD) (t : Fin cfg0.N) (T : Fin 49152) (d : Fin 1024) : iblk m c 0 t (ix2 T d) = X m c T d := by
  blk_ext! [iblk, V, idx t]
theorem blk_s (c : Dev nD) (t : Fin cfg0.N) (T : Fin 49152) : iblk m c 1 t (ix2 T 0) = S m c T := by
  blk_ext! [iblk, V, idx t]
theorem blk_r (c : Dev nD) (t : Fin cfg0.N) (T : Fin 49152) : iblk m c 2 t (ix2 T 0) = R m c T := by
  blk_ext! [iblk, V, idx t]
theorem blk_g (c : Dev nD) (t : Fin cfg0.N) (d : Fin 1024) : iblk m c 3 t (ix2 0 d) = g m c d := by
  blk_ext! [iblk, V, idx t]
theorem blk_w (c : Dev nD) (t : Fin cfg0.N) (d : Fin 1024) (k : Fin 1536) : iblk m c 4 t (ix2 d k) = w m c d k := by
  blk_ext! [iblk, V, idx t]
theorem blk_ws (c : Dev nD) (t : Fin cfg0.N) (k : Fin 1536) : iblk m c 5 t (ix2 0 k) = ws m c k := by
  blk_ext! [iblk, V, idx t]
theorem blk_q (c : Dev nD) (t : Fin cfg0.N) (T : Fin 49152) (k : Fin 1536) : iblk m c 6 t (ix2 T k) = Q m c T k := by
  blk_ext! [iblk, V, idx t]

end Cert.ReferenceIdeal.Whole

end
-- ==== Proof.ReferenceArrays.lean ====
/- What the reference's three result arrays hold after its run, as the formulas of Math.lean on its arguments. -/
module

public import proofs.«01_k».proof.Proof.Reference

@[expose] public section

set_option maxRecDepth 16384

noncomputable section

namespace Cert.ReferenceIdeal.Whole

open Idealize.ShloMosaic Idealize.ShloMosaic.TcCoe Cert.ReferenceIdeal Cert.ReferenceIdeal.Gen Idealize.SL.Sem Cert.Proof

variable (m : (ℓ : Loc nD τ sig) → Buf (Elt Ideal) ℓ)

/-- The only grid point. -/
abbrev t0 : Fin cfg0.N := ⟨0, lt_of_lt_of_eq (by decide) N_0.symm⟩

/-- There is no other. -/
theorem eq_t0 (t : Fin cfg0.N) : t = t0 :=
  Fin.ext (Nat.lt_one_iff.mp (lt_of_lt_of_eq t.isLt N_0))

/-- The first result's block is its array: a place in the block is the same place in the array. -/
theorem emb7 (t : Fin cfg0.N) (y : S49152x1024.Idx) : ((cfg0.win 7).blk t).view.emb y = y := by
  obtain ⟨-, -, -, -, -, -, -, e, -, -⟩ := idx t
  funext a; apply Fin.ext
  match a with
  | ⟨0, _⟩ => show win0_7.index t (0 : Fin 2) * 49152 + 1 * (y 0).val = (y 0).val; rw [e]; show 0 * 49152 + 1 * (y 0).val = _; omega
  | ⟨1, _⟩ => show win0_7.index t (1 : Fin 2) * 1024 + 1 * (y 1).val = (y 1).val; rw [e]; show 0 * 1024 + 1 * (y 1).val = _; omega

/-- The first array after the run is what the only point stores. -/
theorem arr7 (c : Dev nD) : (dats m 0 c).arrAt 7 cfg0.N
    = out0_7 (iblk m c 0 t0) (iblk m c 1 t0) (iblk m c 2 t0) (iblk m c 3 t0) (iblk m c 4 t0) (iblk m c 5 t0) (iblk m c 6 t0) := by
  refine (dats m 0 c).arrAt_eq_of_cover 7 _ (fun t _ => ?_) fun i =>
    ⟨t0, (by decide +kernel : (cfg0.win 7).flush t0 = true), Finset.mem_map.mpr ⟨i, Finset.mem_univ _, emb7 t0 i⟩⟩
  rw [Value.flushed7, eq_t0 t]
  generalize out0_7 (iblk m c 0 t0) (iblk m c 1 t0) (iblk m c 2 t0) (iblk m c 3 t0) (iblk m c 4 t0) (iblk m c 5 t0) (iblk m c 6 t0) = Z
  funext y
  show Z ((cfg0.win 7).xinj (grid0.coords t0) y) = Z (((cfg0.win 7).blk t0).view.emb y)
  refine congrArg Z (Eq.trans ?_ (emb7 t0 y).symm)
  funext a; apply Fin.ext
  match a with
  | ⟨0, _⟩ => exact rfl
  | ⟨1, _⟩ => exact rfl

/-- The second result's block is its array: a place in the block is the same place in the array. -/
theorem emb8 (t : Fin cfg0.N) (y : S1024x1536.Idx) : ((cfg0.win 8).blk t).view.emb y = y := by
  obtain ⟨-, -, -, -, -, -, -, -, e, -⟩ := idx t
  funext a; apply Fin.ext
  match a with
  | ⟨0, _⟩ => show win0_8.index t (0 : Fin 2) * 1024 + 1 * (y 0).val = (y 0).val; rw [e]; show 0 * 1024 + 1 * (y 0).val = _; omega
  | ⟨1, _⟩ => show win0_8.index t (1 : Fin 2) * 1536 + 1 * (y 1).val = (y 1).val; rw [e]; show 0 * 1536 + 1 * (y 1).val = _; omega

/-- The second array after the run is what the only point stores. -/
theorem arr8 (c : Dev nD) : (dats m 0 c).arrAt 8 cfg0.N
    = out0_8 (iblk m c 0 t0) (iblk m c 1 t0) (iblk m c 2 t0) (iblk m c 3 t0) (iblk m c 4 t0) (iblk m c 5 t0) (iblk m c 6 t0) := by
  refine (dats m 0 c).arrAt_eq_of_cover 8 _ (fun t _ => ?_) fun i =>
    ⟨t0, (by decide +kernel : (cfg0.win 8).flush t0 = true), Finset.mem_map.mpr ⟨i, Finset.mem_univ _, emb8 t0 i⟩⟩
  rw [Value.flushed8, eq_t0 t]
  generalize out0_8 (iblk m c 0 t0) (iblk m c 1 t0) (iblk m c 2 t0) (iblk m c 3 t0) (iblk m c 4 t0) (iblk m c 5 t0) (iblk m c 6 t0) = Z
  funext y
  show Z ((cfg0.win 8).xinj (grid0.coords t0) y) = Z (((cfg0.win 8).blk t0).view.emb y)
  refine congrArg Z (Eq.trans ?_ (emb8 t0 y).symm)
  funext a; apply Fin.ext
  match a with
  | ⟨0, _⟩ => exact rfl
  | ⟨1, _⟩ => exact rfl

/-- The third result's block is its array: a place in the block is the same place in the array. -/
theorem emb9 (t : Fin cfg0.N) (y : S1x1024.Idx) : ((cfg0.win 9).blk t).view.emb y = y := by
  obtain ⟨-, -, -, -, -, -, -, -, -, e⟩ := idx t
  funext a; apply Fin.ext
  match a with
  | ⟨0, _⟩ => show win0_9.index t (0 : Fin 2) * 1 + 1 * (y 0).val = (y 0).val; rw [e]; show 0 * 1 + 1 * (y 0).val = _; omega
  | ⟨1, _⟩ => show win0_9.index t (1 : Fin 2) * 1024 + 1 * (y 1).val = (y 1).val; rw [e]; show 0 * 1024 + 1 * (y 1).val = _; omega

/-- The third array after the run is what the only point stores. -/
theorem arr9 (c : Dev nD) : (dats m 0 c).arrAt 9 cfg0.N
    = out0_9 (iblk m c 0 t0) (iblk m c 1 t0) (iblk m c 2 t0) (iblk m c 3 t0) (iblk m c 4 t0) (iblk m c 5 t0) (iblk m c 6 t0) := by
  refine (dats m 0 c).arrAt_eq_of_cover 9 _ (fun t _ => ?_) fun i =>
    ⟨t0, (by decide +kernel : (cfg0.win 9).flush t0 = true), Finset.mem_map.mpr ⟨i, Finset.mem_univ _, emb9 t0 i⟩⟩
  rw [Value.flushed9, eq_t0 t]
  generalize out0_9 (iblk m c 0 t0) (iblk m c 1 t0) (iblk m c 2 t0) (iblk m c 3 t0) (iblk m c 4 t0) (iblk m c 5 t0) (iblk m c 6 t0) = Z
  funext y
  show Z ((cfg0.win 9).xinj (grid0.coords t0) y) = Z (((cfg0.win 9).blk t0).view.emb y)
  refine congrArg Z (Eq.trans ?_ (emb9 t0 y).symm)
  funext a; apply Fin.ext
  match a with
  | ⟨0, _⟩ => exact rfl
  | ⟨1, _⟩ => exact rfl

/-! ## The body's stores, at an index, given what its blocks hold -/

section Stores

variable (x : Vec Ideal S49152x1024 .fp8e4m3) (s r : Vec Ideal S49152x1 .f32) (g : Vec Ideal S1x1024 .f32)
  (w : Vec Ideal S1024x1536 .fp8e4m3) (ws : Vec Ideal S1x1536 .f32) (q : Vec Ideal S49152x1536 .bf16)
variable {X : Fin 49152 → Fin 1024 → EReal} {S R : Fin 49152 → EReal} {G : Fin 1024 → EReal}
  {W : Fin 1024 → Fin 1536 → EReal} {WS : Fin 1536 → EReal} {Q : Fin 49152 → Fin 1536 → EReal}

/-- A literal offset of zeros is the zero offset. -/
theorem off0 : (![0, 0] : Fin 2 → ℕ) = fun _ => 0 := by decide

/-- The first store: the gradient of the activations. -/
theorem out7_eq (hx : ∀ T d, x (ix2 T d) = X T d) (hs : ∀ T, s (ix2 T 0) = S T) (hr : ∀ T, r (ix2 T 0) = R T)
    (hg : ∀ d, g (ix2 0 d) = G d) (hw : ∀ d k, w (ix2 d k) = W d k) (hws : ∀ k, ws (ix2 0 k) = WS k)
    (hq : ∀ T k, q (ix2 T k) = Q T k) (T : Fin 49152) (d : Fin 1024) :
    out0_7 x s r g w ws q (ix2 T d) = Math.dx X S R G (fun d k => W d k * WS k) Q T d := by
  obtain rfl : (fun T d => x (ix2 T d)) = X := funext fun T => funext fun d => hx T d
  obtain rfl : (fun T => s (ix2 T 0)) = S := funext hs
  obtain rfl : (fun T => r (ix2 T 0)) = R := funext hr
  obtain rfl : (fun d => g (ix2 0 d)) = G := funext hg
  obtain rfl : (fun d k => w (ix2 d k)) = W := funext fun d => funext fun k => hw d k
  obtain rfl : (fun k => ws (ix2 0 k)) = WS := funext hws
  obtain rfl : (fun T k => q (ix2 T k)) = Q := funext fun T => funext fun k => hq T k
  unfold out0_7
  rw [View.canon_unit_zero off0, View.ld_unit_zero off0, View.ld_unit_zero off0, View.ld_unit_zero off0,
    View.ld_unit_zero off0, View.ld_unit_zero off0, View.ld_unit_zero off0, View.ld_unit_zero off0]
  exact dx_apply x s r g w ws q T d

/-- The second store: the gradient of the weights. -/
theorem out8_eq (hx : ∀ T d, x (ix2 T d) = X T d) (hs : ∀ T, s (ix2 T 0) = S T) (hr : ∀ T, r (ix2 T 0) = R T)
    (hg : ∀ d, g (ix2 0 d) = G d) (hq : ∀ T k, q (ix2 T k) = Q T k) (d : Fin 1024) (k : Fin 1536) :
    out0_8 x s r g w ws q (ix2 d k) = Math.dw X S R G Q d k := by
  obtain rfl : (fun T d => x (ix2 T d)) = X := funext fun T => funext fun d => hx T d
  obtain rfl : (fun T => s (ix2 T 0)) = S := funext hs
  obtain rfl : (fun T => r (ix2 T 0)) = R := funext hr
  obtain rfl : (fun d => g (ix2 0 d)) = G := funext hg
  obtain rfl : (fun T k => q (ix2 T k)) = Q := funext fun T => funext fun k => hq T k
  unfold out0_8
  rw [View.canon_unit_zero off0, View.ld_unit_zero off0, View.ld_unit_zero off0, View.ld_unit_zero off0,
    View.ld_unit_zero off0, View.ld_unit_zero off0]
  exact dw_apply x s r g q d k

/-- The third store: the gradient of the gain. -/
theorem out9_eq (hx : ∀ T d, x (ix2 T d) = X T d) (hs : ∀ T, s (ix2 T 0) = S T) (hr : ∀ T, r (ix2 T 0) = R T)
    (hw : ∀ d k, w (ix2 d k) = W d k) (hws : ∀ k, ws (ix2 0 k) = WS k)
    (hq : ∀ T k, q (ix2 T k) = Q T k) (d : Fin 1024) :
    out0_9 x s r g w ws q (ix2 0 d) = Math.dgamma X S R (fun d k => W d k * WS k) Q d := by
  obtain rfl : (fun T d => x (ix2 T d)) = X := funext fun T => funext fun d => hx T d
  obtain rfl : (fun T => s (ix2 T 0)) = S := funext hs
  obtain rfl : (fun T => r (ix2 T 0)) = R := funext hr
  obtain rfl : (fun d k => w (ix2 d k)) = W := funext fun d => funext fun k => hw d k
  obtain rfl : (fun k => ws (ix2 0 k)) = WS := funext hws
  obtain rfl : (fun T k => q (ix2 T k)) = Q := funext fun T => funext fun k => hq T k
  unfold out0_9
  rw [View.canon_unit_zero off0, View.ld_unit_zero off0, View.ld_unit_zero off0, View.ld_unit_zero off0,
    View.ld_unit_zero off0, View.ld_unit_zero off0, View.ld_unit_zero off0]
  exact dgamma_apply x s r w ws q d

end Stores

/-! ## The three results -/

/-- The first result: the gradient of the activations, at each token and feature. -/
theorem res_dx (c : Dev nD) (T : Fin 49152) (d : Fin 1024) :
    (dats m 0 c).arrAt 7 cfg0.N (ix2 T d) = Math.dx (X m c) (S m c) (R m c) (g m c) (W m c) (Q m c) T d :=
  (congrFun (arr7 m c) (ix2 T d)).trans
    (out7_eq (iblk m c 0 t0) (iblk m c 1 t0) (iblk m c 2 t0) (iblk m c 3 t0) (iblk m c 4 t0) (iblk m c 5 t0) (iblk m c 6 t0)
      (blk_x m c t0) (blk_s m c t0) (blk_r m c t0) (blk_g m c t0) (blk_w m c t0) (blk_ws m c t0) (blk_q m c t0) T d)

/-- The second result: the gradient of the weights, at each feature and column. -/
theorem res_dw (c : Dev nD) (d : Fin 1024) (k : Fin 1536) :
    (dats m 0 c).arrAt 8 cfg0.N (ix2 d k) = Math.dw (X m c) (S m c) (R m c) (g m c) (Q m c) d k :=
  (congrFun (arr8 m c) (ix2 d k)).trans
    (out8_eq (iblk m c 0 t0) (iblk m c 1 t0) (iblk m c 2 t0) (iblk m c 3 t0) (iblk m c 4 t0) (iblk m c 5 t0) (iblk m c 6 t0)
      (blk_x m c t0) (blk_s m c t0) (blk_r m c t0) (blk_g m c t0) (blk_q m c t0) d k)

/-- The third result: the gradient of the gain, at each feature. -/
theorem res_dgamma (c : Dev nD) (d : Fin 1024) :
    (dats m 0 c).arrAt 9 cfg0.N (ix2 0 d) = Math.dgamma (X m c) (S m c) (R m c) (W m c) (Q m c) d :=
  (congrFun (arr9 m c) (ix2 0 d)).trans
    (out9_eq (iblk m c 0 t0) (iblk m c 1 t0) (iblk m c 2 t0) (iblk m c 3 t0) (iblk m c 4 t0) (iblk m c 5 t0) (iblk m c 6 t0)
      (blk_x m c t0) (blk_s m c t0) (blk_r m c t0) (blk_w m c t0) (blk_ws m c t0) (blk_q m c t0) d)

end Cert.ReferenceIdeal.Whole

end
-- ==== Proof.Equation.lean ====
/- From arguments that agree, the reference's three result arrays are the kernel's: both are the formulas of Math.lean on
   the arguments. -/
module

public import proofs.«01_k».proof.Proof.KernelArrays
public import proofs.«01_k».proof.Proof.ReferenceArrays

@[expose] public section

set_option maxRecDepth 16384

noncomputable section

namespace Cert.Proof

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs' seven arguments on a device hold the same values. -/
def Agree (c : Dev KernelIdeal.nD) : Prop :=
  m' ((c : Thread ReferenceIdeal.nD ReferenceIdeal.τ).loc ReferenceIdeal.main_arg0)
    = m ((c : Thread KernelIdeal.nD KernelIdeal.τ).loc KernelIdeal.main_arg0)
  ∧ m' ((c : Thread ReferenceIdeal.nD ReferenceIdeal.τ).loc ReferenceIdeal.main_arg1)
    = m ((c : Thread KernelIdeal.nD KernelIdeal.τ).loc KernelIdeal.main_arg1)
  ∧ m' ((c : Thread ReferenceIdeal.nD ReferenceIdeal.τ).loc ReferenceIdeal.main_arg2)
    = m ((c : Thread KernelIdeal.nD KernelIdeal.τ).loc KernelIdeal.main_arg2)
  ∧ m' ((c : Thread ReferenceIdeal.nD ReferenceIdeal.τ).loc ReferenceIdeal.main_arg3)
    = m ((c : Thread KernelIdeal.nD KernelIdeal.τ).loc KernelIdeal.main_arg3)
  ∧ m' ((c : Thread ReferenceIdeal.nD ReferenceIdeal.τ).loc ReferenceIdeal.main_arg4)
    = m ((c : Thread KernelIdeal.nD KernelIdeal.τ).loc KernelIdeal.main_arg4)
  ∧ m' ((c : Thread ReferenceIdeal.nD ReferenceIdeal.τ).loc ReferenceIdeal.main_arg5)
    = m ((c : Thread KernelIdeal.nD KernelIdeal.τ).loc KernelIdeal.main_arg5)
  ∧ m' ((c : Thread ReferenceIdeal.nD ReferenceIdeal.τ).loc ReferenceIdeal.main_arg6)
    = m ((c : Thread KernelIdeal.nD KernelIdeal.τ).loc KernelIdeal.main_arg6)

/-- So the values the formulas are taken of are the same. -/
theorem args_eq (c : Dev KernelIdeal.nD) (h : Agree m m' c) :
    ReferenceIdeal.Whole.X m' c = KernelIdeal.Block.X m c ∧ ReferenceIdeal.Whole.S m' c = KernelIdeal.Block.S m c
    ∧ ReferenceIdeal.Whole.R m' c = KernelIdeal.Block.R m c ∧ ReferenceIdeal.Whole.g m' c = KernelIdeal.Block.g m c
    ∧ ReferenceIdeal.Whole.W m' c = KernelIdeal.Block.W m c ∧ ReferenceIdeal.Whole.Q m' c = KernelIdeal.Block.Q m c := by
  obtain ⟨h0, h1, h2, h3, h4, h5, h6⟩ := h
  exact ⟨funext fun _ => funext fun _ => congrFun h0 _, funext fun _ => congrFun h1 _, funext fun _ => congrFun h2 _,
    funext fun _ => congrFun h3 _,
    funext fun _ => funext fun _ => congrArg₂ (fun a b : EReal => a * b) (congrFun h4 _) (congrFun h5 _),
    funext fun _ => funext fun _ => congrFun h6 _⟩

/-- The gradient of the activations is the same array. -/
theorem dx_eq (c : Dev KernelIdeal.nD) (h : Agree m m' c) :
    (ReferenceIdeal.Gen.dats m' 0 c).arrAt 7 ReferenceIdeal.cfg0.N = KernelIdeal.Value.G7 m c := by
  obtain ⟨hX, hS, hR, hg, hW, hQ⟩ := args_eq m m' c h
  have e : ∀ (T : Fin 49152) (d : Fin 1024),
      (ReferenceIdeal.Gen.dats m' 0 c).arrAt 7 ReferenceIdeal.cfg0.N (ix2 T d) = KernelIdeal.Value.G7 m c (ix2 T d) := fun T d => by
    refine (ReferenceIdeal.Whole.res_dx m' c T d).trans (Eq.trans ?_ (KernelIdeal.Block.res_dx m c T d).symm)
    rw [hX, hS, hR, hg, hW, hQ]
  refine funext fun (i : ReferenceIdeal.S49152x1024.Idx) => ?_
  obtain ⟨T, d, rfl⟩ : ∃ (T : Fin 49152) (d : Fin 1024), i = ix2 T d := ⟨i 0, i 1, ValueIdx.eq_ix2 i⟩
  exact e T d

/-- The gradient of the weights is the same array. -/
theorem dw_eq (c : Dev KernelIdeal.nD) (h : Agree m m' c) :
    (ReferenceIdeal.Gen.dats m' 0 c).arrAt 8 ReferenceIdeal.cfg0.N = KernelIdeal.Value.G8 m c := by
  obtain ⟨hX, hS, hR, hg, -, hQ⟩ := args_eq m m' c h
  have e : ∀ (d : Fin 1024) (k : Fin 1536),
      (ReferenceIdeal.Gen.dats m' 0 c).arrAt 8 ReferenceIdeal.cfg0.N (ix2 d k) = KernelIdeal.Value.G8 m c (ix2 d k) := fun d k => by
    refine (ReferenceIdeal.Whole.res_dw m' c d k).trans (Eq.trans ?_ (KernelIdeal.Block.res_dw m c d k).symm)
    rw [hX, hS, hR, hg, hQ]
  refine funext fun (i : ReferenceIdeal.S1024x1536.Idx) => ?_
  obtain ⟨d, k, rfl⟩ : ∃ (d : Fin 1024) (k : Fin 1536), i = ix2 d k := ⟨i 0, i 1, ValueIdx.eq_ix2 i⟩
  exact e d k

/-- The gradient of the gain is the same array. -/
theorem dgamma_eq (c : Dev KernelIdeal.nD) (h : Agree m m' c) :
    (ReferenceIdeal.Gen.dats m' 0 c).arrAt 9 ReferenceIdeal.cfg0.N = KernelIdeal.Value.G9 m c := by
  obtain ⟨hX, hS, hR, -, hW, hQ⟩ := args_eq m m' c h
  have e : ∀ (z : Fin 1) (d : Fin 1024),
      (ReferenceIdeal.Gen.dats m' 0 c).arrAt 9 ReferenceIdeal.cfg0.N (ix2 z d) = KernelIdeal.Value.G9 m c (ix2 z d) := fun z d => by
    obtain rfl : z = 0 := Subsingleton.elim z 0
    refine (ReferenceIdeal.Whole.res_dgamma m' c d).trans (Eq.trans ?_ (KernelIdeal.Block.res_dgamma m c d).symm)
    rw [hX, hS, hR, hW, hQ]
  refine funext fun (i : ReferenceIdeal.S1x1024.Idx) => ?_
  obtain ⟨z, d, rfl⟩ : ∃ (z : Fin 1) (d : Fin 1024), i = ix2 z d := ⟨i 0, i 1, ValueIdx.eq_ix2 i⟩
  exact e z d

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The algebraic claim: over exact arithmetic, from the same arguments the kernel and the reference end with the same
    three arrays, namely those the kernel's run leaves. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Value.G7 m c, fun c => Cert.KernelIdeal.Value.G8 m c, fun c => Cert.KernelIdeal.Value.G9 m c,
    Cert.KernelIdeal.Value.run m ρ,
    (θ_run _ _ _).mono (fun _ h c =>
        ⟨(h c).1.trans (dx_eq m m' c (hag c)), (h c).2.1.trans (dw_eq m m' c (hag c)),
          (h c).2.2.1.trans (dgamma_eq m m' c (hag c)), (h c).2.2.2⟩)
      (Cert.ReferenceIdeal.Value.run_blocks m' ρ')⟩

/-- The certificate: the three frames, the idealization, and the algebraic claim. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
